-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Layout.block ⟨2, ![128, 2048]⟩ ⟨2, ![2048, 2048]⟩ 0 16 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![128, 2048]⟩ : Shape).Idx → _) i = 1#1 → r.2.mem ((c.tc : Thread Cert.KernelIdeal.nD Cert.KernelIdeal.τ).loc Cert.KernelIdeal.main_v1) i = (Layout.block ⟨2, ![128, 2048]⟩ ⟨2, ![2048, 2048]⟩ 0 16 c v0 : (⟨2, ![128, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_unclipped (hKernelIdeal := hKernelIdeal) (hReferenceIdeal := hReferenceIdeal) (hOn_unclipped := hOn_unclipped)
    ∧ algebraic_KernelIdeal_SiluIdeal (hKernelIdeal := hKernelIdeal) (hSiluIdeal := hSiluIdeal)
-- ==== On_unclipped.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_cst : FVec F S_ .f32 := constant S_ .f32 0xC2700000#32
  let main_v1 : FVec F S2048x2048 .f32 := broadcastInDim S2048x2048 ![] bcast_S_S2048x2048 main_cst
  let main_v2 : IVec S2048x2048 1 := cmpf .oge main_v0 main_v1
  let main_cst_0 : FVec F S_ .f32 := constant S_ .f32 0x42700000#32
  let main_v3 : FVec F S2048x2048 .f32 := broadcastInDim S2048x2048 ![] bcast_S_S2048x2048 main_cst_0
  let main_v4 : IVec S2048x2048 1 := cmpf .ole main_v0 main_v3
  let main_v5 : IVec S2048x2048 1 := andi main_v2 main_v4
  main_v5
-- ==== Kernel.lean ====
abbrev S2048x128 : Shape := ⟨2, ![2048, 128]⟩
abbrev S128x2048 : Shape := ⟨2, ![128, 2048]⟩
abbrev S2x2x128x512 : Shape := ⟨4, ![2, 2, 128, 512]⟩
abbrev S2x2 : Shape := ⟨2, ![2, 2]⟩
abbrev S2 : Shape := ⟨1, ![2]⟩
abbrev S_ : Shape := ⟨0, ![]⟩
abbrev S128x128 : Shape := ⟨2, ![128, 128]⟩
abbrev S128x512 : Shape := ⟨2, ![128, 512]⟩
abbrev S1x1x128x512 : Shape := ⟨4, ![1, 1, 128, 512]⟩
abbrev S1x1 : Shape := ⟨2, ![1, 1]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S128x2048, .f32⟩
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S2x2x128x512, .f32⟩
  | .local _ .vmem, ⟨4, _⟩ => ⟨S2x2x128x512, .f32⟩
  | .local _ .vmem, ⟨5, _⟩ => ⟨S2x2x128x512, .f32⟩
  | .local _ .vmem, ⟨6, _⟩ => ⟨S2x2x128x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_20 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v30 : BitVec 32 := Scalar.subi v2 c1_i32_19
  let v31 : BitVec 32 := Scalar.subi v30 c0_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let v43 : Index := Scalar.indexCast v42
  let c0 : Index := 0#32
  ![v43.toNat, 0]
def k0_off2 (d0 : Dev nD) (c0_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_48 : BitVec 32 := 1#32
  let v74 : BitVec 32 := Scalar.addi v2 c1_i32_48
  let v75 : BitVec 32 := Scalar.addi v74 c0_i32_49
  let c16_i32_50 : BitVec 32 := 16#32
  let c0_i32_51 : BitVec 32 := 0#32
  let v76 : BitVec 1 := Scalar.cmpi .eq c16_i32_50 c0_i32_51
  let c1_i32_52 : BitVec 32 := 1#32
  let v77 : BitVec 32 := Scalar.select v76 c1_i32_52 c16_i32_50
  let v78 : BitVec 32 := Scalar.remsi v75 v77
  let c0_i32_54 : BitVec 32 := 0#32
  let v80 : BitVec 1 := Scalar.cmpi .slt v78 c0_i32_54
  let c0_i32_55 : BitVec 32 := 0#32
  let v81 : BitVec 1 := Scalar.cmpi .slt v77 c0_i32_55
  let v82 : BitVec 1 := Scalar.xori v80 v81
  let c0_i32_53 : BitVec 32 := 0#32
  let v79 : BitVec 1 := Scalar.cmpi .ne v78 c0_i32_53
  let v83 : BitVec 1 := Scalar.andi v82 v79
  let v84 : BitVec 32 := Scalar.addi v78 v77
  let v85 : BitVec 32 := Scalar.select v83 v84 v78
  let c128_i32_56 : BitVec 32 := 128#32
  let v86 : BitVec 32 := Scalar.muli v85 c128_i32_56
  let v87 : Index := Scalar.indexCast v86
  let c0_57 : Index := 0#32
  ![v87.toNat, 0]
def k0_dev3 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_88 : BitVec 32 := 1#32
  let v118 : BitVec 32 := Scalar.muli v24 c1_i32_88
  let v119 : BitVec 32 := Scalar.addi c0_i32_89 v118
  v119.toNat
def k0_dev4 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_102 : BitVec 32 := 1#32
  let v128 : BitVec 32 := Scalar.muli v13 c1_i32_102
  let v129 : BitVec 32 := Scalar.addi c0_i32_103 v128
  v129.toNat
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v138 : BitVec 32 := Scalar.muli v24 c1_i32_116
  let v139 : BitVec 32 := Scalar.addi c0_i32_117 v138
  v139.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_130 : BitVec 32 := 1#32
  let v148 : BitVec 32 := Scalar.muli v13 c1_i32_130
  let v149 : BitVec 32 := Scalar.addi c0_i32_131 v148
  v149.toNat
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_173 : BitVec 32 := 1#32
  let v193 : BitVec 32 := Scalar.muli v13 c1_i32_173
  let v194 : BitVec 32 := Scalar.addi c0_i32_174 v193
  v194.toNat
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v195 : BitVec 32 := Scalar.muli v24 c1_i32_183
  let v196 : BitVec 32 := Scalar.addi c0_i32_184 v195
  v196.toNat
def k0_dev9 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_226 : BitVec 32 := 1#32
  let v240 : BitVec 32 := Scalar.muli v24 c1_i32_226
  let v241 : BitVec 32 := Scalar.addi c0_i32_227 v240
  v241.toNat
def k0_dev10 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_236 : BitVec 32 := 1#32
  let v242 : BitVec 32 := Scalar.muli v13 c1_i32_236
  let v243 : BitVec 32 := Scalar.addi c0_i32_237 v242
  v243.toNat
def k0_dev11 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_279 : BitVec 32 := 1#32
  let v287 : BitVec 32 := Scalar.muli v13 c1_i32_279
  let v288 : BitVec 32 := Scalar.addi c0_i32_280 v287
  v288.toNat
def k0_dev12 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_289 : BitVec 32 := 1#32
  let v289 : BitVec 32 := Scalar.muli v24 c1_i32_289
  let v290 : BitVec 32 := Scalar.addi c0_i32_290 v289
  v290.toNat
def k0_dev13 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_332 : BitVec 32 := 1#32
  let v334 : BitVec 32 := Scalar.muli v24 c1_i32_332
  let v335 : BitVec 32 := Scalar.addi c0_i32_333 v334
  v335.toNat
def k0_dev14 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_342 : BitVec 32 := 1#32
  let v336 : BitVec 32 := Scalar.muli v13 c1_i32_342
  let v337 : BitVec 32 := Scalar.addi c0_i32_343 v336
  v337.toNat
def k0_dev15 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_398 : BitVec 32 := 1#32
  let v387 : BitVec 32 := Scalar.muli v13 c1_i32_398
  let v388 : BitVec 32 := Scalar.addi c0_i32_399 v387
  v388.toNat
def k0_dev16 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_411 : BitVec 32 := 1#32
  let v391 : BitVec 32 := Scalar.muli v24 c1_i32_411
  let v392 : BitVec 32 := Scalar.addi c0_i32_412 v391
  v392.toNat
def k0_dev17 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_467 : BitVec 32 := 1#32
  let v442 : BitVec 32 := Scalar.muli v24 c1_i32_467
  let v443 : BitVec 32 := Scalar.addi c0_i32_468 v442
  v443.toNat
def k0_dev18 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_480 : BitVec 32 := 1#32
  let v446 : BitVec 32 := Scalar.muli v13 c1_i32_480
  let v447 : BitVec 32 := Scalar.addi c0_i32_481 v446
  v447.toNat
def k0_dev19 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_536 : BitVec 32 := 1#32
  let v497 : BitVec 32 := Scalar.muli v13 c1_i32_536
  let v498 : BitVec 32 := Scalar.addi c0_i32_537 v497
  v498.toNat
def k0_dev20 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_549 : BitVec 32 := 1#32
  let v501 : BitVec 32 := Scalar.muli v24 c1_i32_549
  let v502 : BitVec 32 := Scalar.addi c0_i32_550 v501
  v502.toNat
def k0_dev21 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_605 : BitVec 32 := 1#32
  let v552 : BitVec 32 := Scalar.muli v24 c1_i32_605
  let v553 : BitVec 32 := Scalar.addi c0_i32_606 v552
  v553.toNat
def k0_dev22 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_618 : BitVec 32 := 1#32
  let v556 : BitVec 32 := Scalar.muli v13 c1_i32_618
  let v557 : BitVec 32 := Scalar.addi c0_i32_619 v556
  v557.toNat
def k0_dev23 (d0 : Dev nD) : Nat :=
  let c0_i32_674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_673 : BitVec 32 := 1#32
  let v607 : BitVec 32 := Scalar.muli v13 c1_i32_673
  let v608 : BitVec 32 := Scalar.addi c0_i32_674 v607
  v608.toNat
def k0_dev24 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_686 : BitVec 32 := 1#32
  let v611 : BitVec 32 := Scalar.muli v24 c1_i32_686
  let v612 : BitVec 32 := Scalar.addi c0_i32_687 v611
  v612.toNat
def k0_dev25 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_742 : BitVec 32 := 1#32
  let v662 : BitVec 32 := Scalar.muli v24 c1_i32_742
  let v663 : BitVec 32 := Scalar.addi c0_i32_743 v662
  v663.toNat
def k0_dev26 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_755 : BitVec 32 := 1#32
  let v666 : BitVec 32 := Scalar.muli v13 c1_i32_755
  let v667 : BitVec 32 := Scalar.addi c0_i32_756 v666
  v667.toNat
def k0_dev27 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_811 : BitVec 32 := 1#32
  let v717 : BitVec 32 := Scalar.muli v13 c1_i32_811
  let v718 : BitVec 32 := Scalar.addi c0_i32_812 v717
  v718.toNat
def k0_dev28 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_824 : BitVec 32 := 1#32
  let v721 : BitVec 32 := Scalar.muli v24 c1_i32_824
  let v722 : BitVec 32 := Scalar.addi c0_i32_825 v721
  v722.toNat
def k0_dev29 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_880 : BitVec 32 := 1#32
  let v772 : BitVec 32 := Scalar.muli v24 c1_i32_880
  let v773 : BitVec 32 := Scalar.addi c0_i32_881 v772
  v773.toNat
def k0_dev30 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_893 : BitVec 32 := 1#32
  let v776 : BitVec 32 := Scalar.muli v13 c1_i32_893
  let v777 : BitVec 32 := Scalar.addi c0_i32_894 v776
  v777.toNat
def k0_dev31 (d0 : Dev nD) : Nat :=
  let c0_i32_949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_948 : BitVec 32 := 1#32
  let v827 : BitVec 32 := Scalar.muli v13 c1_i32_948
  let v828 : BitVec 32 := Scalar.addi c0_i32_949 v827
  v828.toNat
def k0_dev32 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_961 : BitVec 32 := 1#32
  let v831 : BitVec 32 := Scalar.muli v24 c1_i32_961
  let v832 : BitVec 32 := Scalar.addi c0_i32_962 v831
  v832.toNat
def k0_dev33 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1017 : BitVec 32 := 1#32
  let v882 : BitVec 32 := Scalar.muli v24 c1_i32_1017
  let v883 : BitVec 32 := Scalar.addi c0_i32_1018 v882
  v883.toNat
def k0_dev34 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1030 : BitVec 32 := 1#32
  let v886 : BitVec 32 := Scalar.muli v13 c1_i32_1030
  let v887 : BitVec 32 := Scalar.addi c0_i32_1031 v886
  v887.toNat
def k0_dev35 (d0 : Dev nD) : Nat :=
  let c0_i32_1087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1086 : BitVec 32 := 1#32
  let v937 : BitVec 32 := Scalar.muli v13 c1_i32_1086
  let v938 : BitVec 32 := Scalar.addi c0_i32_1087 v937
  v938.toNat
def k0_dev36 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1099 : BitVec 32 := 1#32
  let v941 : BitVec 32 := Scalar.muli v24 c1_i32_1099
  let v942 : BitVec 32 := Scalar.addi c0_i32_1100 v941
  v942.toNat
def k0_dev37 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1155 : BitVec 32 := 1#32
  let v992 : BitVec 32 := Scalar.muli v24 c1_i32_1155
  let v993 : BitVec 32 := Scalar.addi c0_i32_1156 v992
  v993.toNat
def k0_dev38 (d0 : Dev nD) : Nat :=
  let c0_i32_1169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1168 : BitVec 32 := 1#32
  let v996 : BitVec 32 := Scalar.muli v13 c1_i32_1168
  let v997 : BitVec 32 := Scalar.addi c0_i32_1169 v996
  v997.toNat
def k0_dev39 (d0 : Dev nD) : Nat :=
  let c0_i32_1224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1223 : BitVec 32 := 1#32
  let v1047 : BitVec 32 := Scalar.muli v13 c1_i32_1223
  let v1048 : BitVec 32 := Scalar.addi c0_i32_1224 v1047
  v1048.toNat
def k0_dev40 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1236 : BitVec 32 := 1#32
  let v1051 : BitVec 32 := Scalar.muli v24 c1_i32_1236
  let v1052 : BitVec 32 := Scalar.addi c0_i32_1237 v1051
  v1052.toNat
def k0_dev41 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1292 : BitVec 32 := 1#32
  let v1102 : BitVec 32 := Scalar.muli v24 c1_i32_1292
  let v1103 : BitVec 32 := Scalar.addi c0_i32_1293 v1102
  v1103.toNat
def k0_dev42 (d0 : Dev nD) : Nat :=
  let c0_i32_1306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1305 : BitVec 32 := 1#32
  let v1106 : BitVec 32 := Scalar.muli v13 c1_i32_1305
  let v1107 : BitVec 32 := Scalar.addi c0_i32_1306 v1106
  v1107.toNat
def k0_dev43 (d0 : Dev nD) : Nat :=
  let c0_i32_1362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1361 : BitVec 32 := 1#32
  let v1157 : BitVec 32 := Scalar.muli v13 c1_i32_1361
  let v1158 : BitVec 32 := Scalar.addi c0_i32_1362 v1157
  v1158.toNat
def k0_dev44 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1374 : BitVec 32 := 1#32
  let v1161 : BitVec 32 := Scalar.muli v24 c1_i32_1374
  let v1162 : BitVec 32 := Scalar.addi c0_i32_1375 v1161
  v1162.toNat
def k0_dev45 (d0 : Dev nD) : Nat :=
  let c0_i32_1431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1430 : BitVec 32 := 1#32
  let v1212 : BitVec 32 := Scalar.muli v24 c1_i32_1430
  let v1213 : BitVec 32 := Scalar.addi c0_i32_1431 v1212
  v1213.toNat
def k0_dev46 (d0 : Dev nD) : Nat :=
  let c0_i32_1444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1443 : BitVec 32 := 1#32
  let v1216 : BitVec 32 := Scalar.muli v13 c1_i32_1443
  let v1217 : BitVec 32 := Scalar.addi c0_i32_1444 v1216
  v1217.toNat
def k0_dev47 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1498 : BitVec 32 := 1#32
  let v1267 : BitVec 32 := Scalar.muli v13 c1_i32_1498
  let v1268 : BitVec 32 := Scalar.addi c0_i32_1499 v1267
  v1268.toNat
def k0_dev48 (d0 : Dev nD) : Nat :=
  let c0_i32_1512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1511 : BitVec 32 := 1#32
  let v1271 : BitVec 32 := Scalar.muli v24 c1_i32_1511
  let v1272 : BitVec 32 := Scalar.addi c0_i32_1512 v1271
  v1272.toNat
def k0_dev49 (d0 : Dev nD) : Nat :=
  let c0_i32_1568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1567 : BitVec 32 := 1#32
  let v1322 : BitVec 32 := Scalar.muli v24 c1_i32_1567
  let v1323 : BitVec 32 := Scalar.addi c0_i32_1568 v1322
  v1323.toNat
def k0_dev50 (d0 : Dev nD) : Nat :=
  let c0_i32_1581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1580 : BitVec 32 := 1#32
  let v1326 : BitVec 32 := Scalar.muli v13 c1_i32_1580
  let v1327 : BitVec 32 := Scalar.addi c0_i32_1581 v1326
  v1327.toNat
def k0_dev51 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1636 : BitVec 32 := 1#32
  let v1377 : BitVec 32 := Scalar.muli v13 c1_i32_1636
  let v1378 : BitVec 32 := Scalar.addi c0_i32_1637 v1377
  v1378.toNat
def k0_dev52 (d0 : Dev nD) : Nat :=
  let c0_i32_1650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1649 : BitVec 32 := 1#32
  let v1381 : BitVec 32 := Scalar.muli v24 c1_i32_1649
  let v1382 : BitVec 32 := Scalar.addi c0_i32_1650 v1381
  v1382.toNat
def k0_dev53 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1705 : BitVec 32 := 1#32
  let v1432 : BitVec 32 := Scalar.muli v24 c1_i32_1705
  let v1433 : BitVec 32 := Scalar.addi c0_i32_1706 v1432
  v1433.toNat
def k0_dev54 (d0 : Dev nD) : Nat :=
  let c0_i32_1719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1718 : BitVec 32 := 1#32
  let v1436 : BitVec 32 := Scalar.muli v13 c1_i32_1718
  let v1437 : BitVec 32 := Scalar.addi c0_i32_1719 v1436
  v1437.toNat
def k0_dev55 (d0 : Dev nD) : Nat :=
  let c0_i32_1774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1773 : BitVec 32 := 1#32
  let v1487 : BitVec 32 := Scalar.muli v13 c1_i32_1773
  let v1488 : BitVec 32 := Scalar.addi c0_i32_1774 v1487
  v1488.toNat
def k0_dev56 (d0 : Dev nD) : Nat :=
  let c0_i32_1787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1786 : BitVec 32 := 1#32
  let v1491 : BitVec 32 := Scalar.muli v24 c1_i32_1786
  let v1492 : BitVec 32 := Scalar.addi c0_i32_1787 v1491
  v1492.toNat
def k0_dev57 (d0 : Dev nD) : Nat :=
  let c0_i32_1843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1842 : BitVec 32 := 1#32
  let v1542 : BitVec 32 := Scalar.muli v24 c1_i32_1842
  let v1543 : BitVec 32 := Scalar.addi c0_i32_1843 v1542
  v1543.toNat
def k0_dev58 (d0 : Dev nD) : Nat :=
  let c0_i32_1856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1855 : BitVec 32 := 1#32
  let v1546 : BitVec 32 := Scalar.muli v13 c1_i32_1855
  let v1547 : BitVec 32 := Scalar.addi c0_i32_1856 v1546
  v1547.toNat
def k0_dev59 (d0 : Dev nD) : Nat :=
  let c0_i32_1912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1911 : BitVec 32 := 1#32
  let v1597 : BitVec 32 := Scalar.muli v13 c1_i32_1911
  let v1598 : BitVec 32 := Scalar.addi c0_i32_1912 v1597
  v1598.toNat
def k0_dev60 (d0 : Dev nD) : Nat :=
  let c0_i32_1925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1924 : BitVec 32 := 1#32
  let v1601 : BitVec 32 := Scalar.muli v24 c1_i32_1924
  let v1602 : BitVec 32 := Scalar.addi c0_i32_1925 v1601
  v1602.toNat
def k0_dev61 (d0 : Dev nD) : Nat :=
  let c0_i32_1981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1980 : BitVec 32 := 1#32
  let v1652 : BitVec 32 := Scalar.muli v24 c1_i32_1980
  let v1653 : BitVec 32 := Scalar.addi c0_i32_1981 v1652
  v1653.toNat
def k0_dev62 (d0 : Dev nD) : Nat :=
  let c0_i32_1994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1993 : BitVec 32 := 1#32
  let v1656 : BitVec 32 := Scalar.muli v13 c1_i32_1993
  let v1657 : BitVec 32 := Scalar.addi c0_i32_1994 v1656
  v1657.toNat
def k0_dev63 (d0 : Dev nD) : Nat :=
  let c0_i32_2049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2048 : BitVec 32 := 1#32
  let v1707 : BitVec 32 := Scalar.muli v13 c1_i32_2048
  let v1708 : BitVec 32 := Scalar.addi c0_i32_2049 v1707
  v1708.toNat
def k0_dev64 (d0 : Dev nD) : Nat :=
  let c0_i32_2062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2061 : BitVec 32 := 1#32
  let v1711 : BitVec 32 := Scalar.muli v24 c1_i32_2061
  let v1712 : BitVec 32 := Scalar.addi c0_i32_2062 v1711
  v1712.toNat
def k0_dev65 (d0 : Dev nD) : Nat :=
  let c0_i32_2118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2117 : BitVec 32 := 1#32
  let v1762 : BitVec 32 := Scalar.muli v24 c1_i32_2117
  let v1763 : BitVec 32 := Scalar.addi c0_i32_2118 v1762
  v1763.toNat
def k0_dev66 (d0 : Dev nD) : Nat :=
  let c0_i32_2131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2130 : BitVec 32 := 1#32
  let v1766 : BitVec 32 := Scalar.muli v13 c1_i32_2130
  let v1767 : BitVec 32 := Scalar.addi c0_i32_2131 v1766
  v1767.toNat
def k0_dev67 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2186 : BitVec 32 := 1#32
  let v1817 : BitVec 32 := Scalar.muli v13 c1_i32_2186
  let v1818 : BitVec 32 := Scalar.addi c0_i32_2187 v1817
  v1818.toNat
def k0_dev68 (d0 : Dev nD) : Nat :=
  let c0_i32_2200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2199 : BitVec 32 := 1#32
  let v1821 : BitVec 32 := Scalar.muli v24 c1_i32_2199
  let v1822 : BitVec 32 := Scalar.addi c0_i32_2200 v1821
  v1822.toNat
def k0_dev69 (d0 : Dev nD) : Nat :=
  let c0_i32_2256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2255 : BitVec 32 := 1#32
  let v1872 : BitVec 32 := Scalar.muli v24 c1_i32_2255
  let v1873 : BitVec 32 := Scalar.addi c0_i32_2256 v1872
  v1873.toNat
def k0_dev70 (d0 : Dev nD) : Nat :=
  let c0_i32_2269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2268 : BitVec 32 := 1#32
  let v1876 : BitVec 32 := Scalar.muli v13 c1_i32_2268
  let v1877 : BitVec 32 := Scalar.addi c0_i32_2269 v1876
  v1877.toNat
def k0_dev71 (d0 : Dev nD) : Nat :=
  let c0_i32_2324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2323 : BitVec 32 := 1#32
  let v1927 : BitVec 32 := Scalar.muli v13 c1_i32_2323
  let v1928 : BitVec 32 := Scalar.addi c0_i32_2324 v1927
  v1928.toNat
def k0_dev72 (d0 : Dev nD) : Nat :=
  let c0_i32_2337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2336 : BitVec 32 := 1#32
  let v1931 : BitVec 32 := Scalar.muli v24 c1_i32_2336
  let v1932 : BitVec 32 := Scalar.addi c0_i32_2337 v1931
  v1932.toNat
def k0_dev73 (d0 : Dev nD) : Nat :=
  let c0_i32_2393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2392 : BitVec 32 := 1#32
  let v1982 : BitVec 32 := Scalar.muli v24 c1_i32_2392
  let v1983 : BitVec 32 := Scalar.addi c0_i32_2393 v1982
  v1983.toNat
def k0_dev74 (d0 : Dev nD) : Nat :=
  let c0_i32_2406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2405 : BitVec 32 := 1#32
  let v1986 : BitVec 32 := Scalar.muli v13 c1_i32_2405
  let v1987 : BitVec 32 := Scalar.addi c0_i32_2406 v1986
  v1987.toNat
def k0_dev75 (d0 : Dev nD) : Nat :=
  let c0_i32_2462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2461 : BitVec 32 := 1#32
  let v2037 : BitVec 32 := Scalar.muli v13 c1_i32_2461
  let v2038 : BitVec 32 := Scalar.addi c0_i32_2462 v2037
  v2038.toNat
def k0_dev76 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2474 : BitVec 32 := 1#32
  let v2041 : BitVec 32 := Scalar.muli v24 c1_i32_2474
  let v2042 : BitVec 32 := Scalar.addi c0_i32_2475 v2041
  v2042.toNat
def k0_dev77 (d0 : Dev nD) : Nat :=
  let c0_i32_2531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2530 : BitVec 32 := 1#32
  let v2092 : BitVec 32 := Scalar.muli v24 c1_i32_2530
  let v2093 : BitVec 32 := Scalar.addi c0_i32_2531 v2092
  v2093.toNat
def k0_dev78 (d0 : Dev nD) : Nat :=
  let c0_i32_2544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2543 : BitVec 32 := 1#32
  let v2096 : BitVec 32 := Scalar.muli v13 c1_i32_2543
  let v2097 : BitVec 32 := Scalar.addi c0_i32_2544 v2096
  v2097.toNat
def k0_dev79 (d0 : Dev nD) : Nat :=
  let c0_i32_2599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2598 : BitVec 32 := 1#32
  let v2147 : BitVec 32 := Scalar.muli v13 c1_i32_2598
  let v2148 : BitVec 32 := Scalar.addi c0_i32_2599 v2147
  v2148.toNat
def k0_dev80 (d0 : Dev nD) : Nat :=
  let c0_i32_2612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2611 : BitVec 32 := 1#32
  let v2151 : BitVec 32 := Scalar.muli v24 c1_i32_2611
  let v2152 : BitVec 32 := Scalar.addi c0_i32_2612 v2151
  v2152.toNat
def k0_dev81 (d0 : Dev nD) : Nat :=
  let c0_i32_2668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2667 : BitVec 32 := 1#32
  let v2202 : BitVec 32 := Scalar.muli v24 c1_i32_2667
  let v2203 : BitVec 32 := Scalar.addi c0_i32_2668 v2202
  v2203.toNat
def k0_dev82 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2680 : BitVec 32 := 1#32
  let v2206 : BitVec 32 := Scalar.muli v13 c1_i32_2680
  let v2207 : BitVec 32 := Scalar.addi c0_i32_2681 v2206
  v2207.toNat
def k0_dev83 (d0 : Dev nD) : Nat :=
  let c0_i32_2737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2736 : BitVec 32 := 1#32
  let v2257 : BitVec 32 := Scalar.muli v13 c1_i32_2736
  let v2258 : BitVec 32 := Scalar.addi c0_i32_2737 v2257
  v2258.toNat
def k0_dev84 (d0 : Dev nD) : Nat :=
  let c0_i32_2750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2749 : BitVec 32 := 1#32
  let v2261 : BitVec 32 := Scalar.muli v24 c1_i32_2749
  let v2262 : BitVec 32 := Scalar.addi c0_i32_2750 v2261
  v2262.toNat
def k0_dev85 (d0 : Dev nD) : Nat :=
  let c0_i32_2806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2805 : BitVec 32 := 1#32
  let v2312 : BitVec 32 := Scalar.muli v24 c1_i32_2805
  let v2313 : BitVec 32 := Scalar.addi c0_i32_2806 v2312
  v2313.toNat
def k0_dev86 (d0 : Dev nD) : Nat :=
  let c0_i32_2819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2818 : BitVec 32 := 1#32
  let v2316 : BitVec 32 := Scalar.muli v13 c1_i32_2818
  let v2317 : BitVec 32 := Scalar.addi c0_i32_2819 v2316
  v2317.toNat
def k0_dev87 (d0 : Dev nD) : Nat :=
  let c0_i32_2874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2873 : BitVec 32 := 1#32
  let v2367 : BitVec 32 := Scalar.muli v13 c1_i32_2873
  let v2368 : BitVec 32 := Scalar.addi c0_i32_2874 v2367
  v2368.toNat
def k0_dev88 (d0 : Dev nD) : Nat :=
  let c0_i32_2887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2886 : BitVec 32 := 1#32
  let v2371 : BitVec 32 := Scalar.muli v24 c1_i32_2886
  let v2372 : BitVec 32 := Scalar.addi c0_i32_2887 v2371
  v2372.toNat
def k0_dev89 (d0 : Dev nD) : Nat :=
  let c0_i32_2943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2942 : BitVec 32 := 1#32
  let v2422 : BitVec 32 := Scalar.muli v24 c1_i32_2942
  let v2423 : BitVec 32 := Scalar.addi c0_i32_2943 v2422
  v2423.toNat
def k0_dev90 (d0 : Dev nD) : Nat :=
  let c0_i32_2956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2955 : BitVec 32 := 1#32
  let v2426 : BitVec 32 := Scalar.muli v13 c1_i32_2955
  let v2427 : BitVec 32 := Scalar.addi c0_i32_2956 v2426
  v2427.toNat
def k0_dev91 (d0 : Dev nD) : Nat :=
  let c0_i32_3012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3011 : BitVec 32 := 1#32
  let v2477 : BitVec 32 := Scalar.muli v13 c1_i32_3011
  let v2478 : BitVec 32 := Scalar.addi c0_i32_3012 v2477
  v2478.toNat
def k0_dev92 (d0 : Dev nD) : Nat :=
  let c0_i32_3025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3024 : BitVec 32 := 1#32
  let v2481 : BitVec 32 := Scalar.muli v24 c1_i32_3024
  let v2482 : BitVec 32 := Scalar.addi c0_i32_3025 v2481
  v2482.toNat
def k0_dev93 (d0 : Dev nD) : Nat :=
  let c0_i32_3081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3080 : BitVec 32 := 1#32
  let v2532 : BitVec 32 := Scalar.muli v24 c1_i32_3080
  let v2533 : BitVec 32 := Scalar.addi c0_i32_3081 v2532
  v2533.toNat
def k0_dev94 (d0 : Dev nD) : Nat :=
  let c0_i32_3094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3093 : BitVec 32 := 1#32
  let v2536 : BitVec 32 := Scalar.muli v13 c1_i32_3093
  let v2537 : BitVec 32 := Scalar.addi c0_i32_3094 v2536
  v2537.toNat
def k0_dev95 (d0 : Dev nD) : Nat :=
  let c0_i32_3149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3148 : BitVec 32 := 1#32
  let v2587 : BitVec 32 := Scalar.muli v13 c1_i32_3148
  let v2588 : BitVec 32 := Scalar.addi c0_i32_3149 v2587
  v2588.toNat
def k0_dev96 (d0 : Dev nD) : Nat :=
  let c0_i32_3162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3161 : BitVec 32 := 1#32
  let v2591 : BitVec 32 := Scalar.muli v24 c1_i32_3161
  let v2592 : BitVec 32 := Scalar.addi c0_i32_3162 v2591
  v2592.toNat
def k0_dev97 (d0 : Dev nD) : Nat :=
  let c0_i32_3218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3217 : BitVec 32 := 1#32
  let v2642 : BitVec 32 := Scalar.muli v24 c1_i32_3217
  let v2643 : BitVec 32 := Scalar.addi c0_i32_3218 v2642
  v2643.toNat
def k0_dev98 (d0 : Dev nD) : Nat :=
  let c0_i32_3231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3230 : BitVec 32 := 1#32
  let v2646 : BitVec 32 := Scalar.muli v13 c1_i32_3230
  let v2647 : BitVec 32 := Scalar.addi c0_i32_3231 v2646
  v2647.toNat
def k0_dev99 (d0 : Dev nD) : Nat :=
  let c0_i32_3287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3286 : BitVec 32 := 1#32
  let v2697 : BitVec 32 := Scalar.muli v13 c1_i32_3286
  let v2698 : BitVec 32 := Scalar.addi c0_i32_3287 v2697
  v2698.toNat
def k0_dev100 (d0 : Dev nD) : Nat :=
  let c0_i32_3300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3299 : BitVec 32 := 1#32
  let v2701 : BitVec 32 := Scalar.muli v24 c1_i32_3299
  let v2702 : BitVec 32 := Scalar.addi c0_i32_3300 v2701
  v2702.toNat
def k0_dev101 (d0 : Dev nD) : Nat :=
  let c0_i32_3356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3355 : BitVec 32 := 1#32
  let v2752 : BitVec 32 := Scalar.muli v24 c1_i32_3355
  let v2753 : BitVec 32 := Scalar.addi c0_i32_3356 v2752
  v2753.toNat
def k0_dev102 (d0 : Dev nD) : Nat :=
  let c0_i32_3369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3368 : BitVec 32 := 1#32
  let v2756 : BitVec 32 := Scalar.muli v13 c1_i32_3368
  let v2757 : BitVec 32 := Scalar.addi c0_i32_3369 v2756
  v2757.toNat
def k0_dev103 (d0 : Dev nD) : Nat :=
  let c0_i32_3424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3423 : BitVec 32 := 1#32
  let v2807 : BitVec 32 := Scalar.muli v13 c1_i32_3423
  let v2808 : BitVec 32 := Scalar.addi c0_i32_3424 v2807
  v2808.toNat
def k0_dev104 (d0 : Dev nD) : Nat :=
  let c0_i32_3437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3436 : BitVec 32 := 1#32
  let v2811 : BitVec 32 := Scalar.muli v24 c1_i32_3436
  let v2812 : BitVec 32 := Scalar.addi c0_i32_3437 v2811
  v2812.toNat
def k0_dev105 (d0 : Dev nD) : Nat :=
  let c0_i32_3493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3492 : BitVec 32 := 1#32
  let v2862 : BitVec 32 := Scalar.muli v24 c1_i32_3492
  let v2863 : BitVec 32 := Scalar.addi c0_i32_3493 v2862
  v2863.toNat
def k0_dev106 (d0 : Dev nD) : Nat :=
  let c0_i32_3506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3505 : BitVec 32 := 1#32
  let v2866 : BitVec 32 := Scalar.muli v13 c1_i32_3505
  let v2867 : BitVec 32 := Scalar.addi c0_i32_3506 v2866
  v2867.toNat
def k0_dev107 (d0 : Dev nD) : Nat :=
  let c0_i32_3562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3561 : BitVec 32 := 1#32
  let v2917 : BitVec 32 := Scalar.muli v13 c1_i32_3561
  let v2918 : BitVec 32 := Scalar.addi c0_i32_3562 v2917
  v2918.toNat
def k0_dev108 (d0 : Dev nD) : Nat :=
  let c0_i32_3575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3574 : BitVec 32 := 1#32
  let v2921 : BitVec 32 := Scalar.muli v24 c1_i32_3574
  let v2922 : BitVec 32 := Scalar.addi c0_i32_3575 v2921
  v2922.toNat
def k0_dev109 (d0 : Dev nD) : Nat :=
  let c0_i32_3631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3630 : BitVec 32 := 1#32
  let v2972 : BitVec 32 := Scalar.muli v24 c1_i32_3630
  let v2973 : BitVec 32 := Scalar.addi c0_i32_3631 v2972
  v2973.toNat
def k0_dev110 (d0 : Dev nD) : Nat :=
  let c0_i32_3644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3643 : BitVec 32 := 1#32
  let v2976 : BitVec 32 := Scalar.muli v13 c1_i32_3643
  let v2977 : BitVec 32 := Scalar.addi c0_i32_3644 v2976
  v2977.toNat
def k0_dev111 (d0 : Dev nD) : Nat :=
  let c0_i32_3708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3707 : BitVec 32 := 1#32
  let v3027 : BitVec 32 := Scalar.muli v24 c1_i32_3707
  let v3028 : BitVec 32 := Scalar.addi c0_i32_3708 v3027
  v3028.toNat
def k0_dev112 (d0 : Dev nD) : Nat :=
  let c0_i32_3773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3772 : BitVec 32 := 1#32
  let v3078 : BitVec 32 := Scalar.muli v13 c1_i32_3772
  let v3079 : BitVec 32 := Scalar.addi c0_i32_3773 v3078
  v3079.toNat
def k0_dev113 (d0 : Dev nD) : Nat :=
  let c0_i32_3838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3837 : BitVec 32 := 1#32
  let v3129 : BitVec 32 := Scalar.muli v24 c1_i32_3837
  let v3130 : BitVec 32 := Scalar.addi c0_i32_3838 v3129
  v3130.toNat
def k0_dev114 (d0 : Dev nD) : Nat :=
  let c0_i32_3903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3902 : BitVec 32 := 1#32
  let v3180 : BitVec 32 := Scalar.muli v13 c1_i32_3902
  let v3181 : BitVec 32 := Scalar.addi c0_i32_3903 v3180
  v3181.toNat
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.KernelIdeal.Prog.lean ====
module
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

/-! The body of the kernel written once per step, and the proof that it is the printed body.

Two rings run at once: ring 0 passes partial sums to the right and covers columns 0 to 1023, ring 1
passes them to the left and covers columns 1024 to 2047. Each ring is cut in two sub-chunks of 512
columns, and each sub-chunk has two send slots, two receive slots, and a credit counter. -/

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The programs the body is made of. -/
abbrev PROG (F : FTy → Type) := Prog (TpuEff nD τ sig (Elt F) Λ₀ .tc) PUnit

/-- The device to the left. -/
def devL (d : Dev nD) : Dev nD := ⟨k0_dev1 d, k0_dev1_lt d⟩
/-- The device to the right. -/
def devR (d : Dev nD) : Dev nD := ⟨k0_dev2 d, k0_dev2_lt d⟩

/-- The device ring `x` sends to. -/
def dst (x : Fin 2) (d : Dev nD) : Dev nD := match x with | 0 => devR d | 1 => devL d
/-- The device ring `x` receives from. -/
def src (x : Fin 2) (d : Dev nD) : Dev nD := match x with | 0 => devL d | 1 => devR d

/-- The staged block of the first argument. -/
abbrev xM : Memref sig .tc .vmem S2048x128 .f32 := Memref.whole cc0_stg0_0
/-- The staged block of the second argument. -/
abbrev wM : Memref sig .tc .vmem S128x2048 .f32 := Memref.whole cc0_stg1_0
/-- The staged block of the result. -/
abbrev oM : Memref sig .tc .vmem S128x2048 .f32 := Memref.whole cc0_stg2_0

/-- The send buffer of ring `x`. -/
def sndM (x : Fin 2) : Memref sig .tc .vmem S2x2x128x512 .f32 :=
  match x with | 0 => Memref.whole cc0_scratch0 | 1 => Memref.whole cc0_scratch2
/-- The receive buffer of ring `x`. -/
def rcvM (x : Fin 2) : Memref sig .tc .vmem S2x2x128x512 .f32 :=
  match x with | 0 => Memref.whole cc0_scratch1 | 1 => Memref.whole cc0_scratch3
/-- The semaphores that count ring `x`'s own copies as sent. -/
def sndA (x : Fin 2) : DmaSems sig S2x2 := match x with | 0 => cc0_scratch4 | 1 => cc0_scratch6
/-- The semaphores that count ring `x`'s copies as arrived. -/
def rcvA (x : Fin 2) : DmaSems sig S2x2 := match x with | 0 => cc0_scratch5 | 1 => cc0_scratch7
/-- The credit counters of ring `x`. -/
def crdA (x : Fin 2) : Sems sig S2 := match x with | 0 => cc0_scratch8 | 1 => cc0_scratch9

/-- Slot `k`, sub-chunk `s` of a send or receive buffer. -/
abbrev slotR (k s : Fin 2) : Rect S2x2x128x512 :=
  Rect.unit (s := S2x2x128x512) ![k.val, s.val, 0, 0] S1x1x128x512.size (by revert k s; decide)
/-- The columns of ring `x`'s sub-chunk `s`. -/
abbrev colR (x s : Fin 2) : Rect S128x2048 :=
  Rect.unit (s := S128x2048) ![0, 1024 * x.val + 512 * s.val] S128x512.size (by revert x s; decide)
/-- Where the block of rows ring `x` multiplies at step `t` starts. -/
def rowOff (x : Fin 2) (d : Dev nD) (t : Fin 16) : Fin 2 → Nat :=
  match x with | 0 => k0_off1 d (BitVec.ofNat 32 t.val) | 1 => k0_off2 d (BitVec.ofNat 32 t.val)
/-- The block of rows lies in the argument. -/
theorem rowOff_inb (x : Fin 2) (d : Dev nD) (t : Fin 16) : ∀ a, rowOff x d t a + S128x128.size a ≤ S2048x128.size a :=
  match x with | 0 => k0_off1_inb d t | 1 => k0_off2_inb d t
/-- The block of rows ring `x` multiplies at step `t`. -/
abbrev rowR (x : Fin 2) (d : Dev nD) (t : Fin 16) : Rect S2048x128 :=
  Rect.unit (s := S2048x128) (rowOff x d t) S128x128.size (rowOff_inb x d t)

/-- Slot `k`, sub-chunk `s` as an array of two axes. -/
abbrev slotV (m : Memref sig .tc .vmem S2x2x128x512 .f32) (k s : Fin 2) : Memref sig .tc .vmem S128x512 .f32 :=
  (m.slice (slotR k s) (fun _ => rfl)).squeeze S128x512 squeezes_S1x1x128x512_S128x512
/-- The semaphore of slot `k`, sub-chunk `s`. -/
abbrev slotS (a : DmaSems sig S2x2) (k s : Fin 2) :=
  ((a.slice (Rect.unit (s := S2x2) ![k.val, s.val] S1x1.size (by revert k s; decide))).squeeze S_ squeezes_S1x1_S_).sem
/-- The credit counter of sub-chunk `s`. -/
abbrev crdS (x s : Fin 2) :=
  (((crdA x).slice (Rect.unit (s := S2) ![s.val] S1.size (by revert s; decide))).squeeze S_ squeezes_S1_S_).sem

/-- The barrier semaphore. -/
abbrev barS := (SemArray.scalar (d := ![]) (sig.barrier 0 rfl)).sem

/-- The slot used at hop `t`. -/
def par (t : ℕ) : Fin 2 := ⟨t % 2, Nat.mod_lt _ (by decide)⟩

/-- The product of a block of rows and a block of columns. -/
def prod (xv : Vec F S128x128 .f32) (wv : Vec F S128x512 .f32) : FVec F S128x512 .f32 :=
  matmul dot_S128x128_S128x512_S128x512_1_0_0_1_n_n none (shapeCast S128x128 xv shapeCasts_S128x128_S128x128)
    (shapeCast S128x512 wv shapeCasts_S128x512_S128x512) (constant S128x512 .f32 0x00000000#32)
/-- A received partial sum and a product added. -/
def acc (rv : Vec F S1x1x128x512 .f32) (p : FVec F S128x512 .f32) : FVec F S128x512 .f32 :=
  addf (shapeCast S128x512 rv shapeCasts_S1x1x128x512_S128x512) p
/-- A block of 128 by 512 as the contents of a slot. -/
def toSlot (v : FVec F S128x512 .f32) : FVec F S1x1x128x512 .f32 :=
  shapeCast S1x1x128x512 v shapeCasts_S128x512_S1x1x128x512
/-- The value times its logistic function. -/
def act (v : FVec F S128x512 .f32) : FVec F S128x512 .f32 := mulf v (logistic v)

/-- Step `t` of a hop as one of the sixteen blocks of rows. -/
def row (t : ℕ) : Fin 16 := ⟨t % 16, Nat.mod_lt _ (by decide)⟩

/-- Before the ring starts: the first product of ring `x`, sub-chunk `s`, is put in send slot 0. -/
def firstK (d : Dev nD) (x s : Fin 2) (k : PROG F) : PROG F :=
  .op (.load xM (rowR x d (row 0)).toLoadRect (View.loadsAt_vmem h_S128x128)) fun xv =>
  .op (.load wM (colR x s).toLoadRect (View.loadsAt_vmem h_S128x512)) fun wv =>
  .op (.load (sndM x) (slotR (par 0) s).toLoadRect (View.loadsAt_vmem h_S1x1x128x512)) fun _ =>
  .op (.store (sndM x) (slotR (par 0) s) (toSlot (prod xv wv)) Finset.univ (View.stores_vmem_bits_univ h_S1x1x128x512 rfl) (.inl rfl)) fun _ =>
  k

/-- The copy of hop `t`: send slot to the neighbour's receive slot. -/
def sendK (d : Dev nD) (t : ℕ) (x s : Fin 2) (k : PROG F) : PROG F :=
  .op (.enqueueDma (slotV (sndM x) (par t) s)
    (.remote (Dev.tc (dst x d)) (slotV (rcvM x) (par t) s) (.dma (slotS (sndA x) (par t) s))) (.dma (slotS (rcvA x) (par t) s))
    ((View.wordExact_bits rfl).reshape _ _) ((View.wordExact_bits rfl).reshape _ _) ⟨⟨rfl, Or.inl rfl⟩, trivial⟩) fun _ =>
  k

/-- The wait for hop `t`'s own copy to have been sent. -/
def waitSentK (t : ℕ) (x s : Fin 2) (k : PROG F) : PROG F :=
  .op (.waitDma2 (slotS (sndA x) (par t) s) (slotV (rcvM x) (par t) s) (slotV (sndM x) (par t) s)
    ((View.wordExact_bits rfl).reshape _ _) ((View.wordExact_bits rfl).reshape _ _)) fun _ =>
  k

/-- Hop `t` of ring `x`, sub-chunk `s`: the next product is taken, the partial sum that has arrived is
awaited and added. Before the last hop the sum goes on to the neighbour, a credit back to where it came
from; at the last hop it is activated and stored in the result. -/
def hopK (d : Dev nD) (t : ℕ) (x s : Fin 2) (k : PROG F) : PROG F :=
  .op (.load xM (rowR x d (row (t + 1))).toLoadRect (View.loadsAt_vmem h_S128x128)) fun xv =>
  .op (.load wM (colR x s).toLoadRect (View.loadsAt_vmem h_S128x512)) fun wv =>
  .op (.waitDma2 (slotS (rcvA x) (par t) s) (slotV (sndM x) (par t) s) (slotV (rcvM x) (par t) s)
    ((View.wordExact_bits rfl).reshape _ _) ((View.wordExact_bits rfl).reshape _ _)) fun _ =>
  .op (.load (rcvM x) (slotR (par t) s).toLoadRect (View.loadsAt_vmem h_S1x1x128x512)) fun rv =>
  bif Nat.blt t 14 then
    (bif Nat.beq t 0 then id else waitSentK (t - 1) x s) <|
    .op (.load (sndM x) (slotR (par (t + 1)) s).toLoadRect (View.loadsAt_vmem h_S1x1x128x512)) fun _ =>
    .op (.store (sndM x) (slotR (par (t + 1)) s) (toSlot (acc rv (prod xv wv))) Finset.univ (View.stores_vmem_bits_univ h_S1x1x128x512 rfl) (.inl rfl)) fun _ =>
    (bif Nat.blt t 13 then fun k => .op (.semSignal (Dev.tc (src x d)) (crdS x s) 1) fun _ => k else id) <|
    (bif Nat.beq t 0 then id else fun k => .op (.semWait (crdS x s) 1) fun _ => k) <|
    sendK d (t + 1) x s k
  else
    .op (.load oM (colR x s).toLoadRect (View.loadsAt_vmem h_S128x512)) fun _ =>
    .op (.store oM (colR x s) (act (acc rv (prod xv wv))) Finset.univ (View.stores_vmem_bits_univ h_S128x512 rfl) (.inl rfl)) fun _ =>
    k

/-- A step for each ring and sub-chunk, the sub-chunks outermost. -/
def fourK (f : Fin 2 → Fin 2 → PROG F → PROG F) (k : PROG F) : PROG F :=
  f 0 0 (f 1 0 (f 0 1 (f 1 1 k)))

/-- A step for each ring and sub-chunk, the rings outermost. -/
def fourK' (f : Fin 2 → Fin 2 → PROG F → PROG F) (k : PROG F) : PROG F :=
  f 0 0 (f 0 1 (f 1 0 (f 1 1 k)))

/-- `n` hops from hop `t` on. -/
def hopsK (d : Dev nD) : ℕ → ℕ → PROG F → PROG F
  | 0, _, k => k
  | n + 1, t, k => fourK (hopK d t) (hopsK d n (t + 1) k)

/-- The body on device `d`. -/
def bodyK (d : Dev nD) : PROG F :=
  .op (.semSignal (Dev.tc (devL d)) barS 1) fun _ =>
  .op (.semSignal (Dev.tc (devR d)) barS 1) fun _ =>
  .op (.semWait barS 2) fun _ =>
  fourK' (firstK d) <| fourK (sendK d 0) <| hopsK d 15 0 <|
  fourK' (waitSentK 13) <| fourK' (waitSentK 14) <| .ret ⟨⟩

set_option maxRecDepth 100000 in
/-- The printed body is the body above. -/
theorem body_eq (t : Fin cfg0.N) : bodyAt0 (F := F) t = .op .deviceId fun d => bodyK d := by
  have ht : t = t0_0 := fin_N0 t
  subst ht
  rfl

end Cert.KernelIdeal.Ring

end
-- ==== Proof.KernelIdeal.Ghost.lean ====
module
public import proofs.«01_k».proof.Proof.KernelIdeal.Prog
public import Idealize.ShloMosaic.Lib.Pipeline.Launch
public import Idealize.ShloMosaic.Lib.Pipeline.Kit
public import Idealize.ShloMosaic.Lib.Release
public import Idealize.ShloMosaic.Lib.Tactic

/-! The protocol of the two rings: which semaphore is credited by whom, how often, how much, and what
comes with it. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

/-! ## The ring -/

theorem devL_devR (c : Dev nD) : devL (devR c) = c := by revert c; decide +kernel
theorem devR_devL (c : Dev nD) : devR (devL c) = c := by revert c; decide +kernel
theorem devR_ne (c : Dev nD) : devR c ≠ devL c := by revert c; decide +kernel
theorem src_dst (x : Fin 2) (c : Dev nD) : src x (dst x c) = c := by
  fin_cases x; exacts [devL_devR c, devR_devL c]
theorem dst_src (x : Fin 2) (c : Dev nD) : dst x (src x c) = c := by
  fin_cases x; exacts [devR_devL c, devL_devR c]
/-- Ring `x` as a permutation of the devices. -/
def ring (x : Fin 2) : Dev nD ≃ Dev nD := ⟨dst x, src x, src_dst x, dst_src x⟩

theorem par_succ_succ (t : ℕ) : par (t + 2) = par t := by unfold par; congr 1; omega
theorem par_val (t : ℕ) : (par t).val = t % 2 := rfl

/-! ## The resource algebra -/

/-- A receive slot: the device that receives, the ring, the slot, the sub-chunk. -/
def Key : Type := Dev nD × Fin 2 × Fin 2 × Fin 2
instance : DecidableEq Key := inferInstanceAs (DecidableEq (Dev nD × Fin 2 × Fin 2 × Fin 2))
instance : Fintype Key := inferInstanceAs (Fintype (Dev nD × Fin 2 × Fin 2 × Fin 2))
/-- The slot of given device, ring, slot and sub-chunk. -/
def key (r : Dev nD) (x k s : Fin 2) : Key := (r, x, k, s)
/-- The protocol's own algebra: the rounds of its semaphores, and the records of its receive slots. -/
abbrev UB : Type := URounds (GSem nD τ sig) ℕ × USlots Key
/-- With the pipeline's. -/
abbrev UU : Type := UR sig nD τ × UB

local notation "𝕄" => MT nD τ sig ℕ (Elt F) ℕ UU ℕ

/-- The pipeline's part. -/
abbrev EP : Emb (UR sig nD τ) (MT nD τ sig ℕ (Elt F) ℕ UU ℕ) := embL
/-- The rounds' part. -/
abbrev ER : Emb (URounds (GSem nD τ sig) ℕ) (MT nD τ sig ℕ (Elt F) ℕ UU ℕ) :=
  (Emb.inl : Emb (URounds (GSem nD τ sig) ℕ) UB).trans embR
/-- The slots' part. -/
abbrev ES : Emb (USlots Key) (MT nD τ sig ℕ (Elt F) ℕ UU ℕ) :=
  (Emb.inr : Emb (USlots Key) UB).trans embR

/-! ## The semaphores -/

/-- The barrier, the semaphores of the slots (sent: `false`, arrived: `true`), the credit counters. -/
abbrev Kd : Type := Option ((Bool × Fin 2 × Fin 2 × Fin 2) ⊕ (Fin 2 × Fin 2))
instance : DecidableEq Kd := inferInstance
instance : Fintype Kd := inferInstance
instance : DecidableEq (Dev nD × Kd) := instDecidableEqProd
/-- The barrier. -/
abbrev kBar : Kd := none
/-- Ring `x`, slot `k`, sub-chunk `s`: sent. -/
abbrev kSnd (x k s : Fin 2) : Kd := some (.inl (false, x, k, s))
/-- Ring `x`, slot `k`, sub-chunk `s`: arrived. -/
abbrev kRcv (x k s : Fin 2) : Kd := some (.inl (true, x, k, s))
/-- Ring `x`, sub-chunk `s`: credit. -/
abbrev kCrd (x s : Fin 2) : Kd := some (.inr (x, s))

/-- The semaphore of each kind. -/
def csem : Kd → SemLoc sig
  | none => .reg barS
  | some (.inl (false, x, k, s)) => .dma (slotS (sndA x) k s)
  | some (.inl (true, x, k, s)) => .dma (slotS (rcvA x) k s)
  | some (.inr (x, s)) => .reg (crdS x s)

theorem csem_injective : Function.Injective csem := by
  have h : ∀ p : Kd × Kd, csem p.1 = csem p.2 → p.1 = p.2 := by decide +kernel
  exact fun a b => h (a, b)

/-- Device `c`'s semaphore of a kind. -/
def cell (c : Dev nD) (κ : Kd) : GSem nD τ sig := ((c : Thread nD τ), csem κ)

theorem cell_injective {c c' : Dev nD} {κ κ' : Kd} (h : cell c κ = cell c' κ') : c = c' ∧ κ = κ' :=
  ⟨congrArg (fun g : GSem nD τ sig => g.1.1) h, csem_injective (congrArg Prod.snd h)⟩

/-- The kind of a semaphore, if it is one of the protocol's. -/
def kindOf (sm : SemLoc sig) : Option Kd := open Classical in if h : ∃ κ, csem κ = sm then some h.choose else none
theorem kindOf_csem (κ : Kd) : kindOf (csem κ) = some κ := by
  have h : ∃ κ', csem κ' = csem κ := ⟨κ, rfl⟩
  unfold kindOf; rw [dif_pos h]; exact congrArg some (csem_injective h.choose_spec)

/-- What a copy of one slot adds to a semaphore. -/
def N : ℕ := (slotV (sndM 0) 0 0).view.dmaCredit
theorem N_pos : 0 < N := View.dmaCredit_pos _ (by decide)
theorem credit_snd (x k s : Fin 2) : (slotV (sndM x) k s).view.dmaCredit = N := by
  fin_cases x <;> fin_cases k <;> fin_cases s <;> rfl
theorem credit_rcv (x k s : Fin 2) : (slotV (rcvM x) k s).view.dmaCredit = N := by
  fin_cases x <;> fin_cases k <;> fin_cases s <;> rfl

/-! ## The values that travel -/

section Values

variable (X : Dev nD → (cc0_stg0_0 : Ref sig .tc).ty.Contents (Elt F)) (W : Dev nD → (cc0_stg1_0 : Ref sig .tc).ty.Contents (Elt F))

/-- Device `c`'s product of its block `t` of rows with the columns of ring `x`, sub-chunk `s`. -/
def pv (c : Dev nD) (x s : Fin 2) (t : ℕ) : FVec F S128x512 .f32 :=
  prod (xM.view.readAt (Elt F) (rowR x c (row t)).toLoadRect (X c)) (wM.view.readAt (Elt F) (colR x s).toLoadRect (W c))

/-- What device `c` sends at hop `t`: its first product, and after that what it has received plus its own product. -/
def sendV (x s : Fin 2) : ℕ → Dev nD → FVec F S128x512 .f32
  | 0, c => pv X W c x s 0
  | t + 1, c => acc (toSlot (sendV x s t (src x c))) (pv X W c x s (t + 1))

/-- What device `c` stores at the end in the columns of ring `x`, sub-chunk `s`. -/
def outV (c : Dev nD) (x s : Fin 2) : FVec F S128x512 .f32 :=
  act (acc (toSlot (sendV X W x s 14 (src x c))) (pv X W c x s 15))

end Values

/-! ## The schedule -/

/-- Device `r` can take the copy of hop `n` of ring `x`, sub-chunk `s`: its slot has been released for it, and the
semaphore that counts its arrival is at the round of that copy. -/
def ready (r : Dev nD) (x s : Fin 2) (n : ℕ) : sProp 𝕄 :=
  iprop(released ES (key r x (par n) s) (n / 2 + 1) ∗ reached ER (cell r (kRcv x (par n) s)) (n / 2))

instance ready_persistent (r : Dev nD) (x s : Fin 2) (n : ℕ) : BI.Persistent (ready (F := F) r x s n) := by
  unfold ready; infer_instance
instance ready_storable (r : Dev nD) (x s : Fin 2) (n : ℕ) : BI.Storable (upEmb : UEmb _ 𝕄) (ready (F := F) r x s n) := by
  unfold ready; infer_instance

omit [FloatOps F] in
/-- A slot ready for a later copy is ready for the earlier ones of the same slot. -/
theorem ready_mono (r : Dev nD) (x s : Fin 2) {n n' : ℕ} (hp : par n = par n') (h : n' ≤ n) :
    ready (F := F) r x s n ⊢ ready r x s n' := by
  unfold ready; rw [hp]
  exact BI.sep_mono (released_mono ES (by omega)) (reached_mono ER (by omega))

/-- One slot of a buffer on device `c`, at any contents. -/
def anySlot (c : Dev nD) (m : Memref sig .tc .vmem S2x2x128x512 .f32) (k s : Fin 2) : sProp 𝕄 :=
  slot ((slotV m k s).view.loc (c : Thread nD τ)) (slotV m k s).view.set

instance anySlot_storable (c : Dev nD) (m : Memref sig .tc .vmem S2x2x128x512 .f32) (k s : Fin 2) :
    BI.Storable (upEmb : UEmb _ 𝕄) (anySlot (F := F) c m k s) := by
  unfold anySlot; infer_instance

/-- The payments of each round: the barrier two, by the two neighbours; a slot's semaphore one for each hop that uses
the slot; a credit counter thirteen, all in one round. -/
def dutiesOf : Kd → ℕ → Finset ℕ
  | none, r => if r = 0 then {0, 1} else ∅
  | some (.inl (_, _, k, _)), r => if 2 * r + k.val ≤ 14 then {0} else ∅
  | some (.inr _), r => if r = 0 then Finset.range 13 else ∅
/-- The size of a payment. -/
def amountOf : Kd → ℕ
  | some (.inl _) => N
  | _ => 1

theorem amountOf_slot (y : Bool × Fin 2 × Fin 2 × Fin 2) : amountOf (some (.inl y)) = N := rfl

section Sched

variable (X : Dev nD → (cc0_stg0_0 : Ref sig .tc).ty.Contents (Elt F)) (W : Dev nD → (cc0_stg1_0 : Ref sig .tc).ty.Contents (Elt F))

/-- What comes with a payment. A barrier signal says that the sender's receive slots are ready for the first two hops.
A copy sent gives the send slot back; a copy arrived gives the receive slot with the contents sent. Credit `j` says that
the slots are ready for hops `j + 1` and `j + 2`. -/
def payOf (c : Dev nD) : Kd → ℕ → ℕ → sProp 𝕄
  | none, _, d => bigSep Finset.univ fun s : Fin 2 => iprop(ready (dst (par d) c) (par d) s 0 ∗ ready (dst (par d) c) (par d) s 1)
  | some (.inl (false, x, k, s)), _, _ => anySlot c (sndM x) k s
  | some (.inl (true, x, k, s)), r, _ => owns (c : Thread nD τ) (slotV (rcvM x) k s) fullShare (sendV X W x s (2 * r + k.val) (src x c))
  | some (.inr (x, s)), _, j => iprop(ready (dst x c) x s (j + 1) ∗ ready (dst x c) x s (j + 2))

instance payOf_storable (c : Dev nD) (κ : Kd) (r d : ℕ) : BI.Storable (upEmb : UEmb _ 𝕄) (payOf X W c κ r d) := by
  rcases κ with _ | (⟨_ | _, x, k, s⟩ | ⟨x, s⟩) <;> dsimp only [payOf] <;> infer_instance

theorem payOf_snd (c : Dev nD) (x k s : Fin 2) (r d : ℕ) : payOf X W c (kSnd x k s) r d = anySlot c (sndM x) k s := rfl
theorem payOf_rcv (c : Dev nD) (x k s : Fin 2) (r d : ℕ) :
    payOf X W c (kRcv x k s) r d = owns (c : Thread nD τ) (slotV (rcvM x) k s) fullShare (sendV X W x s (2 * r + k.val) (src x c)) := rfl
theorem payOf_crd (c : Dev nD) (x s : Fin 2) (r j : ℕ) :
    payOf X W c (kCrd x s) r j = iprop(ready (dst x c) x s (j + 1) ∗ ready (dst x c) x s (j + 2)) := rfl
theorem payOf_bar (c : Dev nD) (r d : ℕ) :
    payOf X W c kBar r d = bigSep Finset.univ fun s : Fin 2 => iprop(ready (dst (par d) c) (par d) s 0 ∗ ready (dst (par d) c) (par d) s 1) := rfl

/-- The schedule of all the protocol's semaphores. -/
def Rd : Rounds.Schedule (GSem nD τ sig) ℕ 𝕄 where
  duties g r := if g.1.2 = .tc then (match kindOf g.2 with | some κ => dutiesOf κ r | none => ∅) else ∅
  unitless _ := False
  amount g _ _ := match kindOf g.2 with | some κ => amountOf κ | none => 1
  payload g r d := match kindOf g.2 with | some κ => payOf X W g.1.1 κ r d | none => iprop(emp)
  amount_pos g _ _ _ := by
    show 0 < (match kindOf g.2 with | some κ => amountOf κ | none => 1)
    cases kindOf g.2 with
    | none => exact Nat.one_pos
    | some κ => rcases κ with _ | (_ | _); exacts [Nat.one_pos, N_pos, Nat.one_pos]

instance Rd_storable (g : GSem nD τ sig) (r d : ℕ) : BI.Storable (upEmb : UEmb _ 𝕄) ((Rd X W).payload g r d) := by
  show BI.Storable upEmb (match kindOf g.2 with | some κ => payOf X W g.1.1 κ r d | none => iprop(emp))
  split <;> infer_instance

theorem Rd_duties (c : Dev nD) (κ : Kd) (r : ℕ) : (Rd X W).duties (cell c κ) r = dutiesOf κ r := by
  show (if (cell c κ).1.2 = .tc then (match kindOf (csem κ) with | some κ => dutiesOf κ r | none => ∅) else ∅) = _
  rw [kindOf_csem]; exact if_pos rfl
theorem Rd_amount (c : Dev nD) (κ : Kd) (r d : ℕ) : (Rd X W).amount (cell c κ) r d = amountOf κ := by
  show (match kindOf (csem κ) with | some κ => amountOf κ | none => 1) = _
  rw [kindOf_csem]
theorem Rd_payload (c : Dev nD) (κ : Kd) (r d : ℕ) : (Rd X W).payload (cell c κ) r d = payOf X W c κ r d := by
  show (match kindOf (csem κ) with | some κ => payOf X W c κ r d | none => iprop(emp)) = _
  rw [kindOf_csem]
theorem Rd_expect (c : Dev nD) (κ : Kd) (r : ℕ) : (Rd X W).expect (cell c κ) r = (dutiesOf κ r).card * amountOf κ := by
  unfold Schedule.expect Schedule.amountOf
  rw [Rd_duties, Finset.sum_congr rfl fun d _ => Rd_amount X W c κ r d, Finset.sum_const, smul_eq_mul]

/-- What is left of a slot semaphore's round, nothing taken: its one payload. -/
theorem rest_slot (c : Dev nD) (b : Bool) (x k s : Fin 2) (r : ℕ) (hr : 2 * r + k.val ≤ 14) :
    bigSep ((Rd X W).duties (cell c (some (.inl (b, x, k, s)))) r \ ∅) (fun d => (Rd X W).payload (cell c (some (.inl (b, x, k, s)))) r d)
      = payOf X W c (some (.inl (b, x, k, s))) r 0 := by
  have hd : dutiesOf (some (.inl (b, x, k, s))) r = {0} := if_pos hr
  rw [Finset.sdiff_empty, Rd_duties, hd, bigSep_singleton, Rd_payload]

end Sched

/-! ## What each device owes; the levels -/

/-- The copy of hop `h`. -/
def sT (c : Dev nD) (x s : Fin 2) (h : ℕ) : CellTallies nD τ sig ℕ := tallyAt (cell (dst x c) (kRcv x (par h) s)) (2 * h + 2) N
/-- The credit of hop `h`. -/
def cT (c : Dev nD) (x s : Fin 2) (h : ℕ) : CellTallies nD τ sig ℕ := tallyAt (cell (src x c) (kCrd x s)) (2 * h + 3) 1
/-- What device `c` still owes for ring `x`, sub-chunk `s` before hop `t`. -/
def oweK (c : Dev nD) (x s : Fin 2) (t : ℕ) : CellTallies nD τ sig ℕ :=
  (∑ h ∈ Finset.Ico t 14, sT c x s (h + 1)) + ∑ h ∈ Finset.Ico t 13, cT c x s h

/-- Everything owed in `O` is owed at an index above `n`, on a semaphore of a TensorCore. -/
def Above (n : ℕ) (O : CellTallies nD τ sig ℕ) : Prop := ∀ g u, 0 < O g u → g.1.2 = .tc ∧ n < u ∧ u < 40

theorem Above.mono {n n' : ℕ} {O : CellTallies nD τ sig ℕ} (h : n' ≤ n) (hO : Above n O) : Above n' O :=
  fun g u hg => ⟨(hO g u hg).1, lt_of_le_of_lt h (hO g u hg).2.1, (hO g u hg).2.2⟩
theorem Above.zero {n : ℕ} : Above n 0 := fun _ _ h => absurd h (Nat.lt_irrefl 0)
theorem Above.add {n : ℕ} {O O' : CellTallies nD τ sig ℕ} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.tally {n : ℕ} (c : Dev nD) (κ : Kd) (ι m : ℕ) (h : n < ι) (h' : ι < 40) : Above n (tallyAt (cell c κ) ι m) := by
  intro g u hg
  rw [tallyAt_apply] at hg
  by_cases hh : g = cell c κ ∧ u = ι
  · rw [hh.1, hh.2]; exact ⟨rfl, h, h'⟩
  · rw [if_neg hh] at hg; exact absurd hg (Nat.lt_irrefl 0)
theorem Above.sum {n : ℕ} {I : Finset ℕ} {f : ℕ → CellTallies nD τ sig ℕ} (h : ∀ i ∈ I, Above n (f i)) : Above n (∑ i ∈ I, f i) :=
  Finset.sum_induction f (Above n) (fun _ _ => Above.add) Above.zero h
theorem Above.oweK (c : Dev nD) (x s : Fin 2) (t : ℕ) : Above (2 * t + 2) (oweK c x s t) := by
  unfold Ring.oweK sT cT
  refine .add (.sum fun h hh => ?_) (.sum fun h hh => ?_) <;> rw [Finset.mem_Ico] at hh <;>
    exact .tally _ _ _ _ (by omega) (by omega)

/-- The indices in use. -/
def L (g : GSem nD τ sig) : Finset ℕ := if g.1.2 = .tc then Finset.range 40 else ∅
/-- The level of an index is itself. -/
def lv (_ : GSem nD τ sig) (u : ℕ) : ℕ := u

theorem L_of_ne (g : GSem nD τ sig) (h : g.1.2 ≠ .tc) : L g = ∅ := if_neg h
theorem mem_L {g : GSem nD τ sig} {u : ℕ} (h : g.1.2 = .tc) (hu : u < 40) : u ∈ L g := by
  unfold L; rw [if_pos h]; exact Finset.mem_range.mpr hu

omit [FloatOps F] in
/-- A device may wait at index `n` while everything it owes is above. -/
theorem mayWait (c : Dev nD) (sm : SemLoc sig) (n : ℕ) (hn : n < 40) {O : CellTallies nD τ sig ℕ} (hO : Above n O) :
    (levAts L lv : sProp 𝕄) ⊢ MayWait (c : Thread nD τ) sm n O :=
  MayOwe.of_cut (L := L) (lev := lv) n
    (fun p hp => by rw [Finset.mem_singleton.mp hp]; exact mem_L rfl hn)
    (fun g u hg => mem_L (hO g u hg).1 (hO g u hg).2.2)
    (fun p hp => by rw [Finset.mem_singleton.mp hp]; exact le_refl _)
    (fun g u hg => (hO g u hg).2.1)

end Cert.KernelIdeal.Ring

end
-- ==== Proof.KernelIdeal.Slots.lean ====
module
public import proofs.«01_k».proof.Proof.KernelIdeal.Ghost
public import Idealize.ShloMosaic.Lib.Pipeline.Value

/-! Rules for the operations of the body: loads, stores, copies, waits. -/

@[expose] public section

set_option maxRecDepth 10000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

abbrev 𝒱₀ : Variants := Variants.none

/-- The weakest precondition of a program on device `c`. -/
abbrev WP (c : Dev nD) (p : PROG F) (Q : PUnit → sProp 𝕄) : sProp 𝕄 :=
  wp frame (wpE (defs₀ (F := F)) 𝒱₀ (c : Thread nD τ) none) Set.univ p Q

/-! ## Slots -/

theorem slot_view_read (m : Memref sig .tc .vmem S2x2x128x512 .f32) (k s : Fin 2) (g : m.view.ty.Contents (Elt F)) :
    (slotV m k s).view.read (Elt F) g
      = shapeCast S128x512 ((m.access (slotR k s)).read (Elt F) g : Vec F S1x1x128x512 .f32) shapeCasts_S1x1x128x512_S128x512 := rfl

/-- The contents of a slot read as a rectangle of the buffer: the two leading axes of length one added. -/
theorem slot_read (m : Memref sig .tc .vmem S2x2x128x512 .f32) (k s : Fin 2) (f : m.view.ty.Contents (Elt F)) :
    (m.access (slotR k s)).read (Elt F) f = toSlot ((slotV m k s).view.read (Elt F) f) := by
  rw [slot_view_read]; unfold toSlot
  rw [shapeCast_shapeCast]

/-- A slot written with `toSlot v` reads back `v`. -/
theorem slot_read_write (m : Memref sig .tc .vmem S2x2x128x512 .f32) (k s : Fin 2) (f : m.view.ty.Contents (Elt F)) (v : FVec F S128x512 .f32) :
    (slotV m k s).view.read (Elt F) ((m.access (slotR k s)).write (Elt F) f (toSlot v) Finset.univ) = v := by
  rw [slot_view_read, View.read_write_univ]; unfold toSlot
  rw [shapeCast_shapeCast (s := S128x512) (t := S1x1x128x512)]

theorem slot_set (m : Memref sig .tc .vmem S2x2x128x512 .f32) (k s : Fin 2) :
    (slotV m k s).view.set = (m.access (slotR k s)).set := View.set_reshape _ _

/-- A slot at known contents is a slot. -/
theorem anySlot_of_owns (c : Dev nD) (m : Memref sig .tc .vmem S2x2x128x512 .f32) (k s : Fin 2) (V : FVec F S128x512 .f32) :
    owns (c : Thread nD τ) (slotV m k s) fullShare V ⊢ anySlot (F := F) c m k s := by
  unfold owns anySlot slot
  iintro ⟨%f, -, H⟩
  iexists f; iexact H

/-- Two owners of one slot: impossible. -/
theorem anySlot_excl (c : Dev nD) (m : Memref sig .tc .vmem S2x2x128x512 .f32) (k s : Fin 2) :
    iprop(anySlot (F := F) c m k s ∗ anySlot c m k s) ⊢ (False : sProp 𝕄) := by
  unfold anySlot
  exact slot_slot_false (⟨_, View.emb_mem_set _ (fun a => ⟨0, by revert a; decide⟩)⟩)

/-- A load of a slot gives its contents. -/
theorem wp_slot_load (c : Dev nD) (m : Memref sig .tc .vmem S2x2x128x512 .f32) (k s : Fin 2) {hl} {V : FVec F S128x512 .f32}
    {K : Vec F S1x1x128x512 .f32 → PROG F} {Q : PUnit → sProp 𝕄} :
    owns (c : Thread nD τ) (slotV m k s) fullShare V
      ⊢ iprop((owns (c : Thread nD τ) (slotV m k s) fullShare V -∗ WP c (K (toSlot V)) Q)
        -∗ WP c (.op (.load m (slotR k s).toLoadRect hl) K) Q) := by
  unfold owns
  iintro ⟨%f, %hf, H⟩ Hk
  iapply (wp_load_rect 𝒱₀ (c : Thread nD τ) none Set.univ (m := m) (r := slotR k s) (S := (slotV m k s).view.set)
    (by rw [slot_set])) $$ H
  iintro H
  rw [slot_read, hf]
  iapply Hk
  iexists f; isplitr; · ipureintro; exact hf
  iexact H

/-- A store to a slot, after a load of it whose result is not used, leaves the slot at what was stored. -/
theorem wp_slot_put (c : Dev nD) (m : Memref sig .tc .vmem S2x2x128x512 .f32) (k s : Fin 2) {hl} {hx} {hm} {v : FVec F S128x512 .f32}
    {K : PROG F} {Q : PUnit → sProp 𝕄} :
    anySlot c m k s
      ⊢ iprop((owns (c : Thread nD τ) (slotV m k s) fullShare v -∗ WP c K Q)
        -∗ WP c (.op (.load m (slotR k s).toLoadRect hl) fun _ => .op (.store m (slotR k s) (toSlot v) Finset.univ hx hm) fun _ => K) Q) := by
  unfold anySlot slot owns
  iintro ⟨%f, H⟩ Hk
  iapply (wp_load_rect 𝒱₀ (c : Thread nD τ) none Set.univ (m := m) (r := slotR k s) (S := (slotV m k s).view.set)
    (by rw [slot_set])) $$ H
  iintro H
  iapply (wp_store 𝒱₀ (c : Thread nD τ) none Set.univ (m := m) (r := slotR k s) (Mk := Finset.univ) (S := (slotV m k s).view.set)
    (by rw [slot_set, View.setOn_univ])) $$ H
  iintro H
  iapply Hk
  iexists _; isplitr
  · ipureintro; exact slot_read_write m k s f v
  iexact H

/-! ## The staged blocks -/

/-- The staged argument blocks of device `c`. -/
def args (X : Dev nD → (cc0_stg0_0 : Ref sig .tc).ty.Contents (Elt F)) (W : Dev nD → (cc0_stg1_0 : Ref sig .tc).ty.Contents (Elt F)) (c : Dev nD) : sProp 𝕄 :=
  iprop((((c : Thread nD τ).loc cc0_stg0_0) ↦{fullShare} X c) ∗ (((c : Thread nD τ).loc cc0_stg1_0) ↦{fullShare} W c))

section

variable (X : Dev nD → (cc0_stg0_0 : Ref sig .tc).ty.Contents (Elt F)) (W : Dev nD → (cc0_stg1_0 : Ref sig .tc).ty.Contents (Elt F))

/-- The two loads of a step's operands. -/
theorem wp_args (c : Dev nD) (x s : Fin 2) (t : ℕ) {h₁} {h₂}
    {K : FVec F S128x512 .f32 → PROG F} {Q : PUnit → sProp 𝕄} :
    args X W c ⊢ iprop((args X W c -∗ WP c (K (pv X W c x s t)) Q)
      -∗ WP c (.op (.load xM (rowR x c (row t)).toLoadRect h₁) fun xv => .op (.load wM (colR x s).toLoadRect h₂) fun wv => K (prod xv wv)) Q) := by
  unfold args
  iintro ⟨HX, HW⟩ Hk
  iapply (wp_load 𝒱₀ (c : Thread nD τ) none Set.univ (m := xM) (Finset.subset_univ _)) $$ HX; iintro HX
  iapply (wp_load 𝒱₀ (c : Thread nD τ) none Set.univ (m := wM) (Finset.subset_univ _)) $$ HW; iintro HW
  iapply Hk
  isplitl [HX] <;> iassumption

/-- The first product of a ring and sub-chunk is put in send slot 0. -/
theorem wp_first (c : Dev nD) (x s : Fin 2) {K : PROG F} {Q : PUnit → sProp 𝕄} :
    iprop(args X W c ∗ anySlot c (sndM x) (par 0) s)
      ⊢ iprop(((args X W c ∗ owns (c : Thread nD τ) (slotV (sndM x) (par 0) s) fullShare (sendV X W x s 0 c)) -∗ WP c K Q)
        -∗ WP c (firstK c x s K) Q) := by
  unfold firstK
  iintro ⟨Ha, Hs⟩ Hk
  iapply (wp_args X W c x s 0 (K := fun p => .op (.load (sndM x) (slotR (par 0) s).toLoadRect (View.loadsAt_vmem h_S1x1x128x512)) fun _ =>
    .op (.store (sndM x) (slotR (par 0) s) (toSlot p) Finset.univ (View.stores_vmem_bits_univ h_S1x1x128x512 rfl) (.inl rfl)) fun _ => K)) $$ Ha
  iintro Ha
  iapply (wp_slot_put c (sndM x) (par 0) s) $$ Hs
  iintro Hs
  iapply Hk
  isplitl [Ha]; · iexact Ha
  iexact Hs

/-! ## The cells -/

/-- Device `c` owes `O`, whatever it has waited for. -/
def ow (c : Dev nD) (O : CellTallies nD τ sig ℕ) : sProp 𝕄 := iprop(∃ W, owes (c : Thread nD τ) O W)

/-- The cell invariants, the slot invariants, the levels, and that every cell is at its first round or later. -/
def Inv (K : Dev nD × Kd → ℕ) (J : Key → ℕ) : sProp 𝕄 :=
  iprop((bigSep Finset.univ fun x : Dev nD × Kd => cellInv ER (Rd X W) (K x) (cell x.1 x.2))
    ∗ (bigSep Finset.univ fun y : Key => slotInv ES (J y) y (anySlot y.1 (rcvM y.2.1) y.2.2.1 y.2.2.2))
    ∗ (levAts L lv)
    ∗ bigSep Finset.univ fun x : Dev nD × Kd => reached ER (cell x.1 x.2) 0)

instance Inv_persistent (K : Dev nD × Kd → ℕ) (J : Key → ℕ) : BI.Persistent (Inv X W K J) := by
  unfold Inv
  have := fun x : Dev nD × Kd => (inferInstance : BI.Persistent (cellInv ER (Rd X W) (K x) (cell x.1 x.2)))
  infer_instance

variable (K : Dev nD × Kd → ℕ) (J : Key → ℕ)

theorem Inv_cell (c : Dev nD) (κ : Kd) : Inv X W K J ⊢ cellInv ER (Rd X W) (K (c, κ)) (cell c κ) := by
  unfold Inv; iintro ⟨H, -, -, -⟩
  have h : (bigSep Finset.univ fun x : Dev nD × Kd => cellInv ER (Rd X W) (K x) (cell x.1 x.2)) ⊢ cellInv ER (Rd X W) (K (c, κ)) (cell c κ) :=
    bigSep_elim (Finset.mem_univ (c, κ))
  iapply h; iexact H
theorem Inv_slot (r : Dev nD) (x k s : Fin 2) : Inv X W K J ⊢ slotInv ES (J (key r x k s)) (key r x k s) (anySlot r (rcvM x) k s) := by
  unfold Inv; iintro ⟨-, H, -, -⟩
  have h : (bigSep Finset.univ fun y : Key => slotInv ES (J y) y (anySlot (F := F) y.1 (rcvM y.2.1) y.2.2.1 y.2.2.2))
      ⊢ slotInv ES (J (key r x k s)) (key r x k s) (anySlot r (rcvM x) k s) := bigSep_elim (Finset.mem_univ (key r x k s))
  iapply h; iexact H
theorem Inv_lev : Inv X W K J ⊢ levAts L lv := by
  unfold Inv; iintro ⟨-, -, H, -⟩; iexact H
theorem Inv_mayWait (c : Dev nD) (sm : SemLoc sig) (n : ℕ) (hn : n < 40) {O : CellTallies nD τ sig ℕ} (hO : Above n O) :
    Inv X W K J ⊢ MayWait (c : Thread nD τ) sm n O := (Inv_lev X W K J).trans (mayWait c sm n hn hO)
theorem Inv_reached (c : Dev nD) (κ : Kd) : Inv X W K J ⊢ reached ER (cell c κ) 0 := by
  unfold Inv; iintro ⟨-, -, -, H⟩
  have h : (bigSep Finset.univ fun x : Dev nD × Kd => (reached ER (cell x.1 x.2) 0 : sProp 𝕄)) ⊢ reached ER (cell c κ) 0 :=
    bigSep_elim (Finset.mem_univ (c, κ))
  iapply h; iexact H

/-- A wait that takes a slot semaphore's whole round: the payload, and the next round. -/
theorem wp_slot_wait (c : Dev nD) (b : Bool) (x k s : Fin 2) (r ι : ℕ) (hr : 2 * r + k.val ≤ 14) (hι : ι < 40)
    {O : CellTallies nD τ sig ℕ} (hO : Above ι O) {sp sp' : Space} {sh : Shape} {e : EltTy} {sem : DmaSem sig} {mS : Memref sig .tc sp' sh e} {m : Memref sig .tc sp sh e} {h₁} {h₂}
    (hsem : SemLoc.dma sem = csem (some (.inl (b, x, k, s)))) (hm : m.view.dmaCredit = N)
    {p : PROG F} {Q : PUnit → sProp 𝕄} :
    iprop(Inv X W K J ∗ cred (tallyAt (cell c (some (.inl (b, x, k, s)))) ι N) ∗ ow c O ∗ atPos ER (cell c (some (.inl (b, x, k, s)))) r ∅ 0)
      ⊢ iprop(((ow c O ∗ atPos ER (cell c (some (.inl (b, x, k, s)))) (r + 1) ∅ 0 ∗ reached ER (cell c (some (.inl (b, x, k, s)))) (r + 1)
            ∗ payOf X W c (some (.inl (b, x, k, s))) r 0) -∗ WP c p Q)
        -∗ WP c (.op (.waitDma2 sem mS m h₁ h₂) fun _ => p) Q) := by
  unfold ow
  iintro ⟨#HI, Hc, ⟨%W', HO⟩, Hat⟩ Hk
  have hcell : cell c (some (.inl (b, x, k, s))) = ((c : Thread nD τ), SemLoc.dma sem) := by rw [hsem]; rfl
  have hd : dutiesOf (some (.inl (b, x, k, s))) r = {0} := if_pos hr
  ihave #HC := (Inv_cell X W K J c (some (.inl (b, x, k, s)))) $$ HI
  iapply (Rounds.wp_wait_rest_token 𝒱₀ ER (Rd X W) (c : Thread nD τ) none (κ := K (c, some (.inl (b, x, k, s))))
      (wpE_waitDma2_eq 𝒱₀ (c : Thread nD τ) none Set.univ) (Set.mem_univ _) ι (O := O) (W := W') (R := r) (m := 0) (T := ∅)
      (by rw [← hcell, Rd_expect, hd, hm, amountOf_slot, Finset.card_singleton, Nat.one_mul, Nat.zero_add])) $$ [Hc HO Hat]
  · rw [← hcell, hm]
    isplitr; · iexact HC
    isplitl [Hc]; · iexact Hc
    isplitl [HO]; · iexact HO
    isplitr; · iapply (Inv_mayWait X W K J c (SemLoc.dma sem) ι hι hO); iexact HI
    iexact Hat
  rw [← hcell, rest_slot X W c b x k s r hr]
  iintro ⟨HO, Hat, Hr, Hp⟩
  iapply Hk
  isplitl [HO]; · iexists _; iexact HO
  isplitl [Hat]; · iexact Hat
  isplitl [Hr]; · iexact Hr
  iexact Hp

/-- The copy of hop `t`: the send slot goes to the neighbour's receive slot, which has been released for it. -/
theorem wp_copy (c : Dev nD) (t : ℕ) (ht : t ≤ 14) (x s : Fin 2) {O : CellTallies nD τ sig ℕ} {p : PROG F} {Q : PUnit → sProp 𝕄} :
    iprop(Inv X W K J ∗ owns (c : Thread nD τ) (slotV (sndM x) (par t) s) fullShare (sendV X W x s t c) ∗ ow c (sT c x s t + O)
        ∗ dutyTok ER (cell c (kSnd x (par t) s)) (t / 2) 0 ∗ reached ER (cell c (kSnd x (par t) s)) (t / 2)
        ∗ dutyTok ER (cell (dst x c) (kRcv x (par t) s)) (t / 2) 0 ∗ writeTok ES (key (dst x c) x (par t) s) (t / 2 + 1)
        ∗ ready (dst x c) x s t)
      ⊢ iprop(((cred (tallyAt (cell c (kSnd x (par t) s)) 0 N) ∗ ow c O) -∗ WP c p Q) -∗ WP c (sendK c t x s p) Q) := by
  unfold ow ready sendK
  iintro ⟨#HI, Hs, ⟨%W', HO⟩, Ht₁, #Hr₁, Ht₂, Hw, #Hrel, #Hr₂⟩ Hk
  have hp : 2 * (t / 2) + (par t).val = t := by show 2 * (t / 2) + t % 2 = t; omega
  have hd (b : Bool) : dutiesOf (some (.inl (b, x, par t, s))) (t / 2) = {0} := if_pos (by rw [hp]; exact ht)
  ihave #HS := (Inv_slot X W K J (dst x c) x (par t) s) $$ HI
  imod (slot_take ES (Set.mem_univ (J (key (dst x c) x (par t) s))) (t / 2 + 1)) $$ [Hw] with Hd
  · isplitr; · iexact HS
    isplitr; · iexact Hrel
    iexact Hw
  unfold owns anySlot slot
  icases Hs with ⟨%fs, %hfs, Hs⟩
  icases Hd with ⟨%fd, Hd⟩
  iapply (Rounds.wp_send_pointsTo 𝒱₀ ER (Rd X W) (c : Thread nD τ) none (κ₁ := K (c, kSnd x (par t) s)) (κ₂ := K (dst x c, kRcv x (par t) s))
      (c' := (dst x c : Thread nD τ)) (src := slotV (sndM x) (par t) s) (dst := slotV (rcvM x) (par t) s)
      (sS := .dma (slotS (sndA x) (par t) s)) (sem := .dma (slotS (rcvA x) (par t) s))
      (r₁ := t / 2) (r₂ := t / 2) (d₁ := 0) (d₂ := 0) (fd := fd)
      (by rw [show ((c : Thread nD τ), SemLoc.dma (slotS (sndA x) (par t) s)) = cell c (kSnd x (par t) s) from rfl, Rd_duties, hd]; exact Finset.mem_singleton_self 0)
      (by rw [show ((dst x c : Thread nD τ), SemLoc.dma (slotS (rcvA x) (par t) s)) = cell (dst x c) (kRcv x (par t) s) from rfl, Rd_duties, hd]; exact Finset.mem_singleton_self 0)
      (2 * t + 2) 0 N (credit_rcv x (par t) s) (Rd_amount X W c (kSnd x (par t) s) _ _) (Rd_amount X W (dst x c) (kRcv x (par t) s) _ _) O
      (O₀ := sT c x s t + O) (add_comm _ _) (W := W')
      (by
        rw [show ((c : Thread nD τ), SemLoc.dma (slotS (sndA x) (par t) s)) = cell c (kSnd x (par t) s) from rfl, Rd_payload, payOf_snd]
        unfold anySlot slot
        iintro H; iexists fs; iexact H)
      (by
        rw [show ((dst x c : Thread nD τ), SemLoc.dma (slotS (rcvA x) (par t) s)) = cell (dst x c) (kRcv x (par t) s) from rfl, Rd_payload, payOf_rcv, hp, src_dst]
        unfold owns
        iintro H
        iexists ((slotV (rcvM x) (par t) s).view.write (Elt F) fd ((slotV (sndM x) (par t) s).view.read (Elt F) fs) Finset.univ)
        isplitr
        · ipureintro; exact (View.read_write_univ _ _).trans hfs
        iexact H)) $$ [Hs Hd HO Ht₁ Ht₂]
  · isplitr; · iapply (Inv_cell X W K J c (kSnd x (par t) s)); iexact HI
    isplitr; · iapply (Inv_cell X W K J (dst x c) (kRcv x (par t) s)); iexact HI
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

end

end Cert.KernelIdeal.Ring

end
-- ==== Proof.KernelIdeal.Step.lean ====
module
public import proofs.«01_k».proof.Proof.KernelIdeal.Slots

/-! One hop of one ring and sub-chunk: what it needs and what it leaves. -/

@[expose] public section

set_option maxRecDepth 10000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))
variable (K : Dev nD × Kd → ℕ) (J : Key → ℕ)

/-! ## What one ring and sub-chunk hold before hop `t` -/

/-- The send slots: the copy of hop `t` is under way, and that of hop `t - 1` too; before hop 0 the second slot is free. -/
def sndSt (c : Dev nD) (x s : Fin 2) (t : ℕ) : sProp 𝕄 :=
  iprop((atPos ER (cell c (kSnd x (par t) s)) (t / 2) ∅ 0 ∗ cred (tallyAt (cell c (kSnd x (par t) s)) 0 N))
    ∗ atPos ER (cell c (kSnd x (par (t + 1)) s)) ((t - 1) / 2) ∅ 0
    ∗ (if t = 0 then anySlot c (sndM x) (par (t + 1)) s else cred (tallyAt (cell c (kSnd x (par (t + 1)) s)) 0 N)))

/-- The receive slot of hop `h`: released for the copy of that hop, or, when there is no such hop, held. -/
def rSlot (c : Dev nD) (x s : Fin 2) (h : ℕ) : sProp 𝕄 :=
  if h ≤ 14 then readerAt ES (key c x (par h) s) (h / 2 + 1) else anySlot c (rcvM x) (par h) s

/-- Where the semaphores of arrivals are, and the receive slots. -/
def rcvSt (c : Dev nD) (x s : Fin 2) (t : ℕ) : sProp 𝕄 :=
  iprop((atPos ER (cell c (kRcv x (par t) s)) (t / 2) ∅ 0 ∗ rSlot c x s t)
    ∗ atPos ER (cell c (kRcv x (par (t + 1)) s)) ((t + 1) / 2) ∅ 0 ∗ rSlot c x s (t + 1))

/-- The credit counter: what has been taken from it, and what came with it. -/
def crdSt (c : Dev nD) (x s : Fin 2) (t : ℕ) : sProp 𝕄 :=
  if t ≤ 13 then iprop(∃ T, ⌜T ⊆ Finset.range 13⌝ ∗ atPos ER (cell c (kCrd x s)) 0 T (t - 1) ∗ bigSep T fun j => payOf X W c (kCrd x s) 0 j)
  else atPos ER (cell c (kCrd x s)) 1 ∅ 0

/-- The claims to arrivals to come. -/
def arrivals (c : Dev nD) (x s : Fin 2) (t : ℕ) : sProp 𝕄 :=
  bigSep (Finset.Ico t 15) fun h => cred (tallyAt (cell c (kRcv x (par h) s)) (2 * h + 2) N)
/-- The permissions for the copy of hop `h`. -/
def copyTok (c : Dev nD) (x s : Fin 2) (h : ℕ) : sProp 𝕄 :=
  iprop(dutyTok ER (cell c (kSnd x (par h) s)) (h / 2) 0 ∗ dutyTok ER (cell (dst x c) (kRcv x (par h) s)) (h / 2) 0
    ∗ writeTok ES (key (dst x c) x (par h) s) (h / 2 + 1))
/-- The permissions for the copies from hop `t` on. -/
def copyToks (c : Dev nD) (x s : Fin 2) (t : ℕ) : sProp 𝕄 := bigSep (Finset.Ico t 15) fun h => copyTok c x s h
/-- The permissions for the credits from hop `t` on. -/
def crdToks (c : Dev nD) (x s : Fin 2) (t : ℕ) : sProp 𝕄 := bigSep (Finset.Ico t 13) fun h => dutyTok ER (cell (src x c) (kCrd x s)) 0 h
/-- The claims to credits from the `t`th on. -/
def crdCreds (c : Dev nD) (x s : Fin 2) (t : ℕ) : sProp 𝕄 := bigSep (Finset.Ico t 13) fun h => cred (tallyAt (cell c (kCrd x s)) (2 * h + 3) 1)
/-- The receive slot of hop `h` is ready, if a credit says so. -/
def rdy (c : Dev nD) (x s : Fin 2) (h : ℕ) : sProp 𝕄 := if h ≤ 14 then ready c x s h else iprop(emp)

instance rdy_persistent (c : Dev nD) (x s : Fin 2) (h : ℕ) : BI.Persistent (rdy (F := F) c x s h) := by
  unfold rdy; split <;> infer_instance

/-- All that ring `x`, sub-chunk `s` holds before hop `t`. -/
def St (c : Dev nD) (x s : Fin 2) (t : ℕ) : sProp 𝕄 :=
  iprop(sndSt c x s t ∗ rcvSt c x s t ∗ crdSt X W c x s t ∗ arrivals c x s t ∗ copyToks c x s (t + 1) ∗ crdToks c x s t
    ∗ crdCreds c x s (t - 1) ∗ rdy c x s (t + 1))

theorem Ico_pop {a b : ℕ} (h : a < b) : Finset.Ico a b = insert a (Finset.Ico (a + 1) b) := by
  ext i; simp only [Finset.mem_Ico, Finset.mem_insert]; omega

omit [FloatOps F] in
/-- The first of a run of assertions. -/
theorem bigSep_Ico_pop {a b : ℕ} (h : a < b) (Φ : ℕ → sProp 𝕄) :
    bigSep (Finset.Ico a b) Φ = iprop(Φ a ∗ bigSep (Finset.Ico (a + 1) b) Φ) := by
  rw [Ico_pop h, bigSep_insert (by simp)]; rfl

theorem oweK_succ (c : Dev nD) (x s : Fin 2) (t : ℕ) (ht : t ≤ 13) :
    oweK c x s t = (if t < 13 then cT c x s t else 0) + (sT c x s (t + 1) + oweK c x s (t + 1)) := by
  unfold oweK
  have h₁ : ∑ h ∈ Finset.Ico t 14, sT c x s (h + 1) = sT c x s (t + 1) + ∑ h ∈ Finset.Ico (t + 1) 14, sT c x s (h + 1) := by
    rw [Ico_pop (by omega : t < 14), Finset.sum_insert (by simp)]
  have h₂ : ∑ h ∈ Finset.Ico t 13, cT c x s h = (if t < 13 then cT c x s t else 0) + ∑ h ∈ Finset.Ico (t + 1) 13, cT c x s h := by
    split
    · rename_i h; rw [Ico_pop h, Finset.sum_insert (by simp)]
    · rename_i h; rw [Finset.Ico_eq_empty (by omega), Finset.Ico_eq_empty (by omega), Finset.sum_empty, add_zero]
  rw [h₁, h₂, add_assoc, add_left_comm _ (ite _ _ _) _, add_left_comm (sT c x s (t + 1))]

/-! ## The parts of a hop -/

/-- A hop's start: the operands are loaded, the partial sum is awaited and loaded. -/
theorem wp_take (c : Dev nD) (x s : Fin 2) (t : ℕ) (ht : t ≤ 14) {O : CellTallies nD τ sig ℕ} (hO : Above (2 * t + 2) O)
    {h₁} {h₂} {h₃} {h₄} {h₅} {p : FVec F S128x512 .f32 → PROG F} {Q : PUnit → sProp 𝕄} :
    iprop(Inv X W K J ∗ args X W c ∗ atPos ER (cell c (kRcv x (par t) s)) (t / 2) ∅ 0 ∗ arrivals c x s t ∗ ow c O)
      ⊢ iprop(((args X W c ∗ owns (c : Thread nD τ) (slotV (rcvM x) (par t) s) fullShare (sendV X W x s t (src x c))
            ∗ atPos ER (cell c (kRcv x (par t) s)) (t / 2 + 1) ∅ 0 ∗ reached ER (cell c (kRcv x (par t) s)) (t / 2 + 1)
            ∗ arrivals c x s (t + 1) ∗ ow c O) -∗ WP c (p (acc (toSlot (sendV X W x s t (src x c))) (pv X W c x s (t + 1)))) Q)
        -∗ WP c (.op (.load xM (rowR x c (row (t + 1))).toLoadRect h₁) fun xv =>
            .op (.load wM (colR x s).toLoadRect h₂) fun wv =>
            .op (.waitDma2 (slotS (rcvA x) (par t) s) (slotV (sndM x) (par t) s) (slotV (rcvM x) (par t) s) h₃ h₄) fun _ =>
            .op (.load (rcvM x) (slotR (par t) s).toLoadRect h₅) fun rv => p (acc rv (prod xv wv))) Q) := by
  have hp : 2 * (t / 2) + (par t).val = t := by show 2 * (t / 2) + t % 2 = t; omega
  unfold arrivals
  rw [bigSep_Ico_pop (by omega : t < 15)]
  iintro ⟨#HI, Ha, Hat, ⟨Hc, Hcs⟩, HO⟩ Hk
  iapply (wp_args X W c x s (t + 1) (K := fun v =>
    .op (.waitDma2 (slotS (rcvA x) (par t) s) (slotV (sndM x) (par t) s) (slotV (rcvM x) (par t) s) h₃ h₄) fun _ =>
      .op (.load (rcvM x) (slotR (par t) s).toLoadRect h₅) fun rv => p (acc rv v))) $$ Ha
  iintro Ha
  iapply (wp_slot_wait X W K J c true x (par t) s (t / 2) (2 * t + 2) (by omega) (by omega) hO (sem := slotS (rcvA x) (par t) s)
    (m := slotV (rcvM x) (par t) s) rfl (credit_rcv x (par t) s)) $$ [Hc HO Hat]
  · isplitr; · iexact HI
    isplitl [Hc]; · iexact Hc
    isplitl [HO] <;> iassumption
  rw [payOf_rcv, hp]
  iintro ⟨HO, Hat, #Hr, Hp⟩
  iapply (wp_slot_load c (rcvM x) (par t) s) $$ Hp
  iintro Hp
  iapply Hk
  isplitl [Ha]; · iexact Ha
  isplitl [Hp]; · iexact Hp
  isplitl [Hat]; · iexact Hat
  isplitr; · iexact Hr
  isplitl [Hcs] <;> iassumption

/-- The receive slot goes back to the sender for its next copy, if there is one. -/
theorem give_slot (c : Dev nD) (x s : Fin 2) (t : ℕ) (ht : t ≤ 14) (V : FVec F S128x512 .f32) :
    iprop(Inv X W K J ∗ rSlot c x s t ∗ owns (c : Thread nD τ) (slotV (rcvM x) (par t) s) fullShare V
        ∗ reached ER (cell c (kRcv x (par t) s)) (t / 2 + 1))
      ⊢ |={Set.univ}=> (iprop(rSlot c x s (t + 2) ∗ rdy c x s (t + 2)) : sProp 𝕄) := by
  unfold rSlot rdy
  rw [if_pos ht, par_succ_succ]
  have hdiv : (t + 2) / 2 = t / 2 + 1 := by omega
  iintro ⟨#HI, Hr, Hp, #Hre⟩
  ihave Hs := (anySlot_of_owns c (rcvM x) (par t) s V) $$ Hp
  by_cases h : t + 2 ≤ 14
  · rw [if_pos h, if_pos h, hdiv]
    ihave #HS := (Inv_slot X W K J c x (par t) s) $$ HI
    imod (slot_release ES (Set.mem_univ (J (key c x (par t) s))) (anySlot_excl c (rcvM x) (par t) s) (t / 2 + 1)) $$ [Hr Hs] with ⟨Hr, #Hrel⟩
    · isplitr; · iexact HS
      isplitl [Hr] <;> iassumption
    imodintro
    isplitl [Hr]; · iexact Hr
    unfold ready; rw [par_succ_succ, hdiv]
    isplitr; · iexact Hrel
    iexact Hre
  · rw [if_neg h, if_neg h]
    imodintro
    isplitl [Hs]; · iexact Hs
    iempintro

/-- The next send slot is free: it is the second one before hop 0, and after that the copy of hop `t - 1` is awaited. -/
theorem wp_free (c : Dev nD) (x s : Fin 2) (t : ℕ) (ht : t ≤ 13) {O : CellTallies nD τ sig ℕ} (hO : Above 0 O)
    {p : PROG F} {Q : PUnit → sProp 𝕄} :
    iprop(Inv X W K J ∗ atPos ER (cell c (kSnd x (par (t + 1)) s)) ((t - 1) / 2) ∅ 0
        ∗ (if t = 0 then anySlot c (sndM x) (par (t + 1)) s else cred (tallyAt (cell c (kSnd x (par (t + 1)) s)) 0 N)) ∗ ow c O)
      ⊢ iprop(((anySlot c (sndM x) (par (t + 1)) s ∗ atPos ER (cell c (kSnd x (par (t + 1)) s)) ((t + 1) / 2) ∅ 0
            ∗ reached ER (cell c (kSnd x (par (t + 1)) s)) ((t + 1) / 2) ∗ ow c O) -∗ WP c p Q)
        -∗ WP c ((bif Nat.beq t 0 then id else waitSentK (t - 1) x s) p) Q) := by
  rcases t with _ | t
  · rw [if_pos rfl]
    iintro ⟨#HI, Hat, Hs, HO⟩ Hk
    iapply Hk
    isplitl [Hs]; · iexact Hs
    isplitl [Hat]; · iexact Hat
    isplitr; · iapply (Inv_reached X W K J c (kSnd x (par 1) s)); iexact HI
    iexact HO
  · have hp : 2 * (t / 2) + (par t).val = t := by show 2 * (t / 2) + t % 2 = t; omega
    rw [if_neg (Nat.succ_ne_zero t), par_succ_succ, show t + 1 - 1 = t from rfl, show (t + 1 + 1) / 2 = t / 2 + 1 by omega]
    show _ ⊢ iprop(_ -∗ WP c (waitSentK t x s p) Q)
    unfold waitSentK
    iintro ⟨#HI, Hat, Hc, HO⟩ Hk
    iapply (wp_slot_wait X W K J c false x (par t) s (t / 2) 0 (by omega) (by omega) hO (sem := slotS (sndA x) (par t) s)
      (m := slotV (sndM x) (par t) s) rfl (credit_snd x (par t) s)) $$ [Hc HO Hat]
    · isplitr; · iexact HI
      isplitl [Hc]; · iexact Hc
      isplitl [HO] <;> iassumption
    rw [payOf_snd]
    iintro ⟨HO, Hat, #Hr, Hp⟩
    iapply Hk
    isplitl [Hp]; · iexact Hp
    isplitl [Hat]; · iexact Hat
    isplitr; · iexact Hr
    iexact HO

/-- The credit of hop `t`: it says that the slots of hops `t + 1` and `t + 2` are ready. -/
theorem wp_pay (c : Dev nD) (x s : Fin 2) (t : ℕ) {O : CellTallies nD τ sig ℕ} {p : PROG F} {Q : PUnit → sProp 𝕄} :
    iprop(Inv X W K J ∗ rdy c x s (t + 1) ∗ rdy c x s (t + 2) ∗ crdToks c x s t ∗ ow c ((if t < 13 then cT c x s t else 0) + O))
      ⊢ iprop(((crdToks c x s (t + 1) ∗ ow c O) -∗ WP c p Q)
        -∗ WP c ((bif Nat.blt t 13 then fun k => .op (.semSignal (Dev.tc (src x c)) (crdS x s) 1) fun _ => k else id) p) Q) := by
  unfold crdToks ow rdy
  by_cases h : t < 13
  · have hb : Nat.blt t 13 = true := by rw [Nat.blt_eq]; exact h
    rw [hb, if_pos h, if_pos (by omega : t + 1 ≤ 14), if_pos (by omega : t + 2 ≤ 14), bigSep_Ico_pop h]
    show _ ⊢ iprop(_ -∗ WP c (.op (.semSignal (Dev.tc (src x c)) (crdS x s) 1) fun _ => p) Q)
    have hd : dutiesOf (kCrd x s) 0 = Finset.range 13 := rfl
    iintro ⟨#HI, #H1, #H2, ⟨Ht, Hts⟩, ⟨%W', HO⟩⟩ Hk
    iapply (Rounds.wp_signal 𝒱₀ ER (Rd X W) (c : Thread nD τ) none (dst := (src x c : Thread nD τ)) (κ := K (src x c, kCrd x s))
        (r := 0) (d := t) (by
          rw [show ((src x c : Thread nD τ), SemLoc.reg (crdS x s)) = cell (src x c) (kCrd x s) from rfl, Rd_duties, hd]
          exact Finset.mem_range.mpr h)
        (Rd_amount X W (src x c) (kCrd x s) 0 t) (2 * t + 3) O (O₀ := cT c x s t + O) (add_comm _ _)) $$ [HO Ht]
    · isplitr; · iapply (Inv_cell X W K J (src x c) (kCrd x s)); iexact HI
      isplitl [HO]; · iexact HO
      isplitl [Ht]; · iexact Ht
      isplitr
      · rw [show ((src x c : Thread nD τ), SemLoc.reg (crdS x s)) = cell (src x c) (kCrd x s) from rfl, Rd_payload, payOf_crd, dst_src]
        isplitr; · iexact H1
        iexact H2
      iapply (Inv_reached X W K J (src x c) (kCrd x s)); iexact HI
    iintro HO
    iapply Hk
    isplitl [Hts]; · iexact Hts
    iexists _; iexact HO
  · have hb : Nat.blt t 13 = false := by rw [← Bool.not_eq_true, Nat.blt_eq]; exact h
    rw [hb, if_neg h, zero_add, Finset.Ico_eq_empty (by omega : ¬ t < 13), Finset.Ico_eq_empty (by omega : ¬ t + 1 < 13)]
    show _ ⊢ iprop(_ -∗ WP c p Q)
    iintro ⟨#HI, -, -, Hts, HO⟩ Hk
    iapply Hk
    isplitl [Hts] <;> iassumption

/-- A credit far enough on says that the slot of hop `n` is ready. -/
theorem ready_of_credit (c : Dev nD) (x s : Fin 2) {n j : ℕ} (h : n ≤ j + 2) :
    payOf X W c (kCrd x s) 0 j ⊢ ready (dst x c) x s n := by
  rw [payOf_crd]
  by_cases hp : (j + 2 - n) % 2 = 0
  · iintro ⟨-, H⟩
    iapply (ready_mono (dst x c) x s (n := j + 2) (n' := n) (Fin.ext (by rw [par_val, par_val]; omega)) h); iexact H
  · iintro ⟨H, -⟩
    iapply (ready_mono (dst x c) x s (n := j + 1) (n' := n) (Fin.ext (by rw [par_val, par_val]; omega)) (by omega)); iexact H

instance payOf_crd_persistent (c : Dev nD) (x s : Fin 2) (j : ℕ) : BI.Persistent (payOf X W c (kCrd x s) 0 j) := by
  rw [payOf_crd]; infer_instance

/-- The credits taken, with those of the last wait. -/
theorem credits_union (c : Dev nD) (x s : Fin 2) {T S : Finset ℕ} (h : T ⊆ S) :
    iprop((bigSep T fun j => payOf X W c (kCrd x s) 0 j) ∗ bigSep (S \ T) fun j => (Rd X W).payload (cell c (kCrd x s)) 0 j)
      ⊢ bigSep S fun j => payOf X W c (kCrd x s) 0 j := by
  rw [show (fun j => (Rd X W).payload (cell c (kCrd x s)) 0 j) = fun j => payOf X W c (kCrd x s) 0 j from funext fun j => Rd_payload X W c _ 0 j]
  exact Entails.of_eq (BI.bigSep_sdiff_split h).symm

/-- One of the credits taken. -/
theorem credit_elim (c : Dev nD) (x s : Fin 2) {S : Finset ℕ} {j : ℕ} (h : j ∈ S) :
    (bigSep S fun j => payOf X W c (kCrd x s) 0 j) ⊢ payOf X W c (kCrd x s) 0 j := BI.bigSep_elim h

/-- The next send: before hop 0 the slot is known to be ready; after that the next credit is awaited, whichever it is it
says that the slot for hop `t + 1` is ready. -/
theorem wp_credit (c : Dev nD) (x s : Fin 2) (t : ℕ) (ht : t ≤ 13) {O : CellTallies nD τ sig ℕ} (hO : Above (2 * t + 1) O)
    {p : PROG F} {Q : PUnit → sProp 𝕄} :
    iprop(Inv X W K J ∗ ready (dst x c) x s 1 ∗ crdSt X W c x s t ∗ crdCreds c x s (t - 1) ∗ ow c O)
      ⊢ iprop(((crdSt X W c x s (t + 1) ∗ crdCreds c x s t ∗ ready (dst x c) x s (t + 1) ∗ ow c O) -∗ WP c p Q)
        -∗ WP c ((bif Nat.beq t 0 then id else fun k => .op (.semWait (crdS x s) 1) fun _ => k) p) Q) := by
  rcases t with _ | t
  · iintro ⟨#HI, #Hr, Hs, Hc, HO⟩ Hk
    iapply Hk
    isplitl [Hs]; · iexact Hs
    isplitl [Hc]; · iexact Hc
    isplitr; · iexact Hr
    iexact HO
  show _ ⊢ iprop(_ -∗ WP c (.op (.semWait (crdS x s) 1) fun _ => p) Q)
  have hcell : ((c : Thread nD τ), SemLoc.reg (crdS x s)) = cell c (kCrd x s) := rfl
  have hd : (Rd X W).duties (cell c (kCrd x s)) 0 = Finset.range 13 := Rd_duties X W c (kCrd x s) 0
  have he : (Rd X W).expect (cell c (kCrd x s)) 0 = 13 := by
    rw [Rd_expect, show dutiesOf (kCrd x s) 0 = Finset.range 13 from rfl, Finset.card_range]; rfl
  unfold crdCreds ow
  rw [show t + 1 - 1 = t from rfl, bigSep_Ico_pop (by omega : t < 13)]
  rw [show crdSt X W c x s (t + 1) = iprop(∃ T, ⌜T ⊆ Finset.range 13⌝ ∗ atPos ER (cell c (kCrd x s)) 0 T t ∗ bigSep T fun j => payOf X W c (kCrd x s) 0 j)
    from if_pos ht]
  iintro ⟨#HI, #Hr, ⟨%T, %hT, Hat, HT⟩, ⟨Hc, Hcs⟩, ⟨%W', HO⟩⟩ Hk
  by_cases h : t + 1 + 1 ≤ 13
  · rw [show crdSt X W c x s (t + 1 + 1) = iprop(∃ T, ⌜T ⊆ Finset.range 13⌝ ∗ atPos ER (cell c (kCrd x s)) 0 T (t + 1) ∗ bigSep T fun j => payOf X W c (kCrd x s) 0 j)
      from if_pos h]
    iapply (Rounds.wp_wait 𝒱₀ ER (Rd X W) (c : Thread nD τ) none (κ := K (c, kCrd x s)) (wpE_semWait_eq 𝒱₀ (c : Thread nD τ) none Set.univ)
        (Set.mem_univ _) {(SemLoc.reg (crdS x s), 2 * t + 3)} (cr := Finsupp.single (2 * t + 3) 1) (O := O) (W := W') (R := 0) (m := t) (T := T)
        (by rw [Util.total_single]) (image_single_subset _ _ _)) $$ [Hc HO Hat]
    · isplitr; · iapply (Inv_cell X W K J c (kCrd x s)); iexact HI
      isplitl [Hc]; · iexact Hc
      isplitl [HO]; · iexact HO
      isplitr; · iapply (Inv_mayWait X W K J c (SemLoc.reg (crdS x s)) (2 * t + 3) (by omega) (hO.mono (by omega))); iexact HI
      iexact Hat
    rw [hcell, hd, he]
    iintro %S ⟨%hS, HO, Hat, Hnew⟩
    obtain ⟨hTS, hSd, hcard⟩ := hS
    ihave #HS := (credits_union X W c x s hTS) $$ [HT Hnew]
    · isplitl [HT] <;> iassumption
    have hj : ∃ j ∈ S, t ≤ j := by
      by_contra hn
      have hsub : S ⊆ Finset.range t := fun j hj => Finset.mem_range.mpr (by
        by_contra hh; exact hn ⟨j, hj, by omega⟩)
      have h1 := Finset.card_le_card hsub
      have h2 := Finset.card_sdiff_add_card_eq_card hSd
      rw [Finset.card_range] at h1 h2
      have h3 : t + 1 + (Finset.range 13 \ S).card ≤ 13 := hcard
      omega
    obtain ⟨j, hjS, hj⟩ := hj
    iapply Hk
    isplitl [Hat]
    · iexists S
      isplitr; · ipureintro; exact hSd
      isplitl [Hat]; · iexact Hat
      iexact HS
    isplitl [Hcs]; · iexact Hcs
    isplitr
    · iapply (ready_of_credit X W c x s (n := t + 1 + 1) (j := j) (by omega))
      iapply (credit_elim X W c x s hjS); iexact HS
    iexists _; iexact HO
  · rw [show crdSt X W c x s (t + 1 + 1) = atPos ER (cell c (kCrd x s)) 1 ∅ 0 from if_neg h]
    iapply (Rounds.wp_wait_rest_token 𝒱₀ ER (Rd X W) (c : Thread nD τ) none (κ := K (c, kCrd x s)) (wpE_semWait_eq 𝒱₀ (c : Thread nD τ) none Set.univ)
        (Set.mem_univ _) (2 * t + 3) (O := O) (W := W') (R := 0) (m := t) (T := T) (by rw [hcell, he]; show t + 1 = 13; omega)) $$ [Hc HO Hat]
    · isplitr; · iapply (Inv_cell X W K J c (kCrd x s)); iexact HI
      isplitl [Hc]; · iexact Hc
      isplitl [HO]; · iexact HO
      isplitr; · iapply (Inv_mayWait X W K J c (SemLoc.reg (crdS x s)) (2 * t + 3) (by omega) (hO.mono (by omega))); iexact HI
      iexact Hat
    rw [hcell, hd]
    iintro ⟨HO, Hat, -, Hnew⟩
    ihave #HS := (credits_union X W c x s hT) $$ [HT Hnew]
    · isplitl [HT] <;> iassumption
    iapply Hk
    isplitl [Hat]; · iexact Hat
    isplitl [Hcs]; · iexact Hcs
    isplitr
    · iapply (ready_of_credit X W c x s (n := t + 1 + 1) (j := 12) (by omega))
      iapply (credit_elim X W c x s (Finset.mem_range.mpr (by omega : 12 < 13))); iexact HS
    iexists _; iexact HO

/-! ## A hop -/

/-- A hop before the last. -/
theorem wp_hop (c : Dev nD) (x s : Fin 2) (t : ℕ) (ht : t ≤ 13) {R : CellTallies nD τ sig ℕ} (hR : Above (2 * t + 2) R)
    {p : PROG F} {Q : PUnit → sProp 𝕄} :
    iprop((Inv X W K J ∗ ready (dst x c) x s 1) ∗ args X W c ∗ St X W c x s t ∗ ow c (oweK c x s t + R))
      ⊢ iprop(((args X W c ∗ St X W c x s (t + 1) ∗ ow c (oweK c x s (t + 1) + R)) -∗ WP c p Q) -∗ WP c (hopK c t x s p) Q) := by
  unfold St sndSt rcvSt copyToks
  rw [bigSep_Ico_pop (by omega : t + 1 < 15), show t + 1 - 1 = t from rfl]
  unfold copyTok
  iintro ⟨⟨#HI, #Hr1⟩, Ha, ⟨⟨⟨HsA, HsC⟩, HsB, HsF⟩, ⟨⟨HrA, HrS⟩, HrB, HrT⟩, Hcrd, Harr, ⟨⟨Hd1, Hd2, Hw⟩, Hcp⟩, Hpay, Hcc, #Hrd⟩, HO⟩ Hk
  have hab : Above (2 * t + 2) (oweK c x s t) := .oweK c x s t
  have hab' : Above (2 * t + 2) (oweK c x s (t + 1)) := (Above.oweK c x s (t + 1)).mono (by omega)
  have hsT : Above (2 * t + 2) (sT c x s (t + 1)) := .tally _ _ _ _ (by omega) (by omega)
  unfold hopK
  iapply (wp_take X W K J c x s t (by omega) (hab.add hR)
    (p := fun v => bif Nat.blt t 14 then
        (bif Nat.beq t 0 then id else waitSentK (t - 1) x s) <|
        .op (.load (sndM x) (slotR (par (t + 1)) s).toLoadRect (View.loadsAt_vmem h_S1x1x128x512)) fun _ =>
        .op (.store (sndM x) (slotR (par (t + 1)) s) (toSlot v) Finset.univ (View.stores_vmem_bits_univ h_S1x1x128x512 rfl) (.inl rfl)) fun _ =>
        (bif Nat.blt t 13 then fun k => .op (.semSignal (Dev.tc (src x c)) (crdS x s) 1) fun _ => k else id) <|
        (bif Nat.beq t 0 then id else fun k => .op (.semWait (crdS x s) 1) fun _ => k) <|
        sendK c (t + 1) x s p
      else
        .op (.load oM (colR x s).toLoadRect (View.loadsAt_vmem h_S128x512)) fun _ =>
        .op (.store oM (colR x s) (act v) Finset.univ (View.stores_vmem_bits_univ h_S128x512 rfl) (.inl rfl)) fun _ =>
        p)) $$ [Ha HrA Harr HO]
  · isplitr; · iexact HI
    isplitl [Ha]; · iexact Ha
    isplitl [HrA]; · iexact HrA
    isplitl [Harr] <;> iassumption
  iintro ⟨Ha, Hp, HrA, #Hre, Harr, HO⟩
  imod (give_slot X W K J c x s t (by omega) _) $$ [HrS Hp] with ⟨HrS, #Hrd2⟩
  · isplitr; · iexact HI
    isplitl [HrS]; · iexact HrS
    isplitl [Hp]; · iexact Hp
    iexact Hre
  rw [show Nat.blt t 14 = true by rw [Nat.blt_eq]; omega, cond_true]
  iapply (wp_free X W K J c x s t ht ((hab.add hR).mono (Nat.zero_le _))) $$ [HsB HsF HO]
  · isplitr; · iexact HI
    isplitl [HsB]; · iexact HsB
    isplitl [HsF] <;> iassumption
  iintro ⟨Hs, HsB, #Hsr, HO⟩
  iapply (wp_slot_put c (sndM x) (par (t + 1)) s) $$ Hs
  iintro Hs
  rw [oweK_succ c x s t ht, add_assoc (ite _ _ _) _ R]
  iapply (wp_pay X W K J c x s t) $$ [Hpay HO]
  · isplitr; · iexact HI
    isplitr; · iexact Hrd
    isplitr; · iexact Hrd2
    isplitl [Hpay] <;> iassumption
  iintro ⟨Hpay, HO⟩
  iapply (wp_credit X W K J c x s t ht (((hsT.add hab').add hR).mono (by omega))) $$ [Hcrd Hcc HO]
  · isplitr; · iexact HI
    isplitr; · iexact Hr1
    isplitl [Hcrd]; · iexact Hcrd
    isplitl [Hcc] <;> iassumption
  iintro ⟨Hcrd, Hcc, #Hrn, HO⟩
  rw [add_assoc (sT c x s (t + 1)) _ R]
  iapply (wp_copy X W K J c (t + 1) (by omega) x s) $$ [Hs HO Hd1 Hd2 Hw]
  · isplitr; · iexact HI
    isplitl [Hs]; · iexact Hs
    isplitl [HO]; · iexact HO
    isplitl [Hd1]; · iexact Hd1
    isplitr; · iexact Hsr
    isplitl [Hd2]; · iexact Hd2
    isplitl [Hw]; · iexact Hw
    iexact Hrn
  iintro ⟨HsC', HO⟩
  iapply Hk
  rw [if_neg (Nat.succ_ne_zero t), par_succ_succ, show (t + 1 + 1) / 2 = t / 2 + 1 by omega]
  isplitl [Ha]; · iexact Ha
  isplitr [HO]
  · isplitl [HsA HsC HsB HsC']
    · isplitl [HsB HsC']
      · isplitl [HsB] <;> iassumption
      isplitl [HsA] <;> iassumption
    isplitl [HrA HrS HrB HrT]
    · isplitl [HrB HrT]
      · isplitl [HrB] <;> iassumption
      isplitl [HrA] <;> iassumption
    isplitl [Hcrd]; · iexact Hcrd
    isplitl [Harr]; · iexact Harr
    isplitl [Hcp]; · iexact Hcp
    isplitl [Hpay]; · iexact Hpay
    isplitl [Hcc]; · iexact Hcc
    iexact Hrd2
  iexact HO

end Cert.KernelIdeal.Ring

end
-- ==== Proof.KernelIdeal.Body.lean ====
module
public import proofs.«01_k».proof.Proof.KernelIdeal.Step

/-! The body from its start to its end: the barrier, the first copies, the fifteen hops, the last waits. -/

@[expose] public section

set_option maxRecDepth 10000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))
variable (K : Dev nD × Kd → ℕ) (J : Key → ℕ)

omit [FloatOps F] in
/-- Something for both of two. -/
theorem bigSep_two (Φ : Fin 2 → sProp 𝕄) : bigSep Finset.univ Φ = iprop(Φ 0 ∗ Φ 1) := by
  rw [bigSep_univ_eq_bigSepL [0, 1] (by decide) (by decide)]; rfl

/-- Something for each ring and sub-chunk, the sub-chunks outermost. -/
def four (Φ : Fin 2 → Fin 2 → sProp 𝕄) : sProp 𝕄 := iprop(Φ 0 0 ∗ Φ 1 0 ∗ Φ 0 1 ∗ Φ 1 1)

/-! ## The last hop -/

/-- The result block with the columns of ring `x`, sub-chunk `s` stored. -/
def putCol (c : Dev nD) (x s : Fin 2) (f : (cc0_stg2_0 : Ref sig .tc).ty.Contents (Elt F)) : (cc0_stg2_0 : Ref sig .tc).ty.Contents (Elt F) :=
  (oM.access (colR x s)).write (Elt F) f (outV X W c x s) Finset.univ

/-- The result block of device `c` at its end. -/
def putAll (c : Dev nD) (f : (cc0_stg2_0 : Ref sig .tc).ty.Contents (Elt F)) : (cc0_stg2_0 : Ref sig .tc).ty.Contents (Elt F) :=
  putCol X W c 1 1 (putCol X W c 0 1 (putCol X W c 1 0 (putCol X W c 0 0 f)))

/-- The staged result block of device `c`. -/
def res (c : Dev nD) (f : (cc0_stg2_0 : Ref sig .tc).ty.Contents (Elt F)) : sProp 𝕄 := ((c : Thread nD τ).loc cc0_stg2_0) ↦{fullShare} f

/-- What ring `x`, sub-chunk `s` holds after the last hop. -/
def EndSt (c : Dev nD) (x s : Fin 2) : sProp 𝕄 :=
  iprop(sndSt c x s 14 ∗ rcvSt c x s 15 ∗ atPos ER (cell c (kCrd x s)) 1 ∅ 0)

theorem wp_last (c : Dev nD) (x s : Fin 2) {f : (cc0_stg2_0 : Ref sig .tc).ty.Contents (Elt F)} {p : PROG F} {Q : PUnit → sProp 𝕄} :
    iprop(Inv X W K J ∗ args X W c ∗ St X W c x s 14 ∗ ow c 0 ∗ res c f)
      ⊢ iprop(((args X W c ∗ EndSt c x s ∗ ow c 0 ∗ res c (putCol X W c x s f)) -∗ WP c p Q) -∗ WP c (hopK c 14 x s p) Q) := by
  unfold St EndSt rcvSt res
  rw [show crdSt X W c x s 14 = atPos ER (cell c (kCrd x s)) 1 ∅ 0 from if_neg (by omega)]
  iintro ⟨#HI, Ha, ⟨Hs, ⟨⟨HrA, HrS⟩, HrB, HrT⟩, Hcrd, Harr, -, -, -, -⟩, HO, Hf⟩ Hk
  unfold hopK
  iapply (wp_take X W K J c x s 14 (by omega) Above.zero
    (p := fun v => bif Nat.blt 14 14 then
        (bif Nat.beq 14 0 then id else waitSentK (14 - 1) x s) <|
        .op (.load (sndM x) (slotR (par (14 + 1)) s).toLoadRect (View.loadsAt_vmem h_S1x1x128x512)) fun _ =>
        .op (.store (sndM x) (slotR (par (14 + 1)) s) (toSlot v) Finset.univ (View.stores_vmem_bits_univ h_S1x1x128x512 rfl) (.inl rfl)) fun _ =>
        (bif Nat.blt 14 13 then fun k => .op (.semSignal (Dev.tc (src x c)) (crdS x s) 1) fun _ => k else id) <|
        (bif Nat.beq 14 0 then id else fun k => .op (.semWait (crdS x s) 1) fun _ => k) <|
        sendK c (14 + 1) x s p
      else
        .op (.load oM (colR x s).toLoadRect (View.loadsAt_vmem h_S128x512)) fun _ =>
        .op (.store oM (colR x s) (act v) Finset.univ (View.stores_vmem_bits_univ h_S128x512 rfl) (.inl rfl)) fun _ =>
        p)) $$ [Ha HrA Harr HO]
  · isplitr; · iexact HI
    isplitl [Ha]; · iexact Ha
    isplitl [HrA]; · iexact HrA
    isplitl [Harr] <;> iassumption
  iintro ⟨Ha, Hp, HrA, #Hre, Harr, HO⟩
  imod (give_slot X W K J c x s 14 (by omega) _) $$ [HrS Hp] with ⟨HrS, -⟩
  · isplitr; · iexact HI
    isplitl [HrS]; · iexact HrS
    isplitl [Hp]; · iexact Hp
    iexact Hre
  rw [show Nat.blt 14 14 = false from rfl, cond_false]
  iapply (wp_load 𝒱₀ (c : Thread nD τ) none Set.univ (m := oM) (Finset.subset_univ _)) $$ Hf; iintro Hf
  iapply (wp_store 𝒱₀ (c : Thread nD τ) none Set.univ (m := oM) (r := colR x s) (Mk := Finset.univ) (f := f) (Finset.subset_univ _)) $$ Hf; iintro Hf
  iapply Hk
  isplitl [Ha]; · iexact Ha
  isplitr [HO Hf]
  · isplitl [Hs]; · iexact Hs
    isplitr [Hcrd]
    · isplitl [HrB HrT]
      · isplitl [HrB] <;> iassumption
      isplitl [HrA]; · iexact HrA
      iexact HrS
    iexact Hcrd
  isplitl [HO]; · iexact HO
  iexact Hf

/-! ## All the hops -/

/-- What device `c` still owes before hop `t`. -/
def oweQ (c : Dev nD) (t : ℕ) : CellTallies nD τ sig ℕ := oweK c 0 0 t + (oweK c 1 0 t + (oweK c 0 1 t + oweK c 1 1 t))

theorem oweQ_end (c : Dev nD) : oweQ c 14 = 0 := by
  have h (x s : Fin 2) : oweK c x s 14 = 0 := by
    unfold oweK; rw [Finset.Ico_eq_empty (by omega), Finset.Ico_eq_empty (by omega), Finset.sum_empty, Finset.sum_empty, add_zero]
  unfold oweQ; rw [h, h, h, h, add_zero, add_zero, add_zero]

/-- Hop `t` for both rings and both sub-chunks. -/
theorem wp_hop4 (c : Dev nD) (t : ℕ) (ht : t ≤ 13) {p : PROG F} {Q : PUnit → sProp 𝕄} :
    iprop((Inv X W K J ∗ four fun x s => ready (dst x c) x s 1) ∗ args X W c ∗ (four fun x s => St X W c x s t) ∗ ow c (oweQ c t))
      ⊢ iprop(((args X W c ∗ (four fun x s => St X W c x s (t + 1)) ∗ ow c (oweQ c (t + 1))) -∗ WP c p Q)
        -∗ WP c (fourK (hopK c t) p) Q) := by
  have h (x s : Fin 2) : Above (2 * t + 2) (oweK c x s t) := .oweK c x s t
  have h' (x s : Fin 2) : Above (2 * t + 2) (oweK c x s (t + 1)) := (Above.oweK c x s (t + 1)).mono (by omega)
  unfold four oweQ fourK
  iintro ⟨⟨#HI, #H00, #H10, #H01, #H11⟩, Ha, ⟨S00, S10, S01, S11⟩, HO⟩ Hk
  iapply (wp_hop X W K J c 0 0 t ht ((h 1 0).add ((h 0 1).add (h 1 1)))) $$ [Ha S00 HO]
  · isplitr; · isplitr; · iexact HI
               iexact H00
    isplitl [Ha]; · iexact Ha
    isplitl [S00] <;> iassumption
  rw [add_left_comm (oweK c 0 0 (t + 1)) (oweK c 1 0 t)]
  iintro ⟨Ha, S00, HO⟩
  iapply (wp_hop X W K J c 1 0 t ht ((h' 0 0).add ((h 0 1).add (h 1 1)))) $$ [Ha S10 HO]
  · isplitr; · isplitr; · iexact HI
               iexact H10
    isplitl [Ha]; · iexact Ha
    isplitl [S10] <;> iassumption
  rw [show oweK c 1 0 (t + 1) + (oweK c 0 0 (t + 1) + (oweK c 0 1 t + oweK c 1 1 t))
    = oweK c 0 1 t + (oweK c 0 0 (t + 1) + (oweK c 1 0 (t + 1) + oweK c 1 1 t)) by ac_rfl]
  iintro ⟨Ha, S10, HO⟩
  iapply (wp_hop X W K J c 0 1 t ht ((h' 0 0).add ((h' 1 0).add (h 1 1)))) $$ [Ha S01 HO]
  · isplitr; · isplitr; · iexact HI
               iexact H01
    isplitl [Ha]; · iexact Ha
    isplitl [S01] <;> iassumption
  rw [show oweK c 0 1 (t + 1) + (oweK c 0 0 (t + 1) + (oweK c 1 0 (t + 1) + oweK c 1 1 t))
    = oweK c 1 1 t + (oweK c 0 0 (t + 1) + (oweK c 1 0 (t + 1) + oweK c 0 1 (t + 1))) by ac_rfl]
  iintro ⟨Ha, S01, HO⟩
  iapply (wp_hop X W K J c 1 1 t ht ((h' 0 0).add ((h' 1 0).add (h' 0 1)))) $$ [Ha S11 HO]
  · isplitr; · isplitr; · iexact HI
               iexact H11
    isplitl [Ha]; · iexact Ha
    isplitl [S11] <;> iassumption
  rw [show oweK c 1 1 (t + 1) + (oweK c 0 0 (t + 1) + (oweK c 1 0 (t + 1) + oweK c 0 1 (t + 1)))
    = oweK c 0 0 (t + 1) + (oweK c 1 0 (t + 1) + (oweK c 0 1 (t + 1) + oweK c 1 1 (t + 1))) by ac_rfl]
  iintro ⟨Ha, S11, HO⟩
  iapply Hk
  isplitl [Ha]; · iexact Ha
  isplitr [HO]; swap; · iexact HO
  isplitl [S00]; · iexact S00
  isplitl [S10]; · iexact S10
  isplitl [S01] <;> iassumption

/-- The last hop for both rings and both sub-chunks. -/
theorem wp_last4 (c : Dev nD) {f : (cc0_stg2_0 : Ref sig .tc).ty.Contents (Elt F)} {p : PROG F} {Q : PUnit → sProp 𝕄} :
    iprop(Inv X W K J ∗ args X W c ∗ (four fun x s => St X W c x s 14) ∗ ow c 0 ∗ res c f)
      ⊢ iprop(((args X W c ∗ (four fun x s => EndSt c x s) ∗ ow c 0 ∗ res c (putAll X W c f)) -∗ WP c p Q)
        -∗ WP c (fourK (hopK c 14) p) Q) := by
  unfold four fourK putAll
  iintro ⟨#HI, Ha, ⟨S00, S10, S01, S11⟩, HO, Hf⟩ Hk
  iapply (wp_last X W K J c 0 0) $$ [Ha S00 HO Hf]
  · isplitr; · iexact HI
    isplitl [Ha]; · iexact Ha
    isplitl [S00]; · iexact S00
    isplitl [HO] <;> iassumption
  iintro ⟨Ha, S00, HO, Hf⟩
  iapply (wp_last X W K J c 1 0) $$ [Ha S10 HO Hf]
  · isplitr; · iexact HI
    isplitl [Ha]; · iexact Ha
    isplitl [S10]; · iexact S10
    isplitl [HO] <;> iassumption
  iintro ⟨Ha, S10, HO, Hf⟩
  iapply (wp_last X W K J c 0 1) $$ [Ha S01 HO Hf]
  · isplitr; · iexact HI
    isplitl [Ha]; · iexact Ha
    isplitl [S01]; · iexact S01
    isplitl [HO] <;> iassumption
  iintro ⟨Ha, S01, HO, Hf⟩
  iapply (wp_last X W K J c 1 1) $$ [Ha S11 HO Hf]
  · isplitr; · iexact HI
    isplitl [Ha]; · iexact Ha
    isplitl [S11]; · iexact S11
    isplitl [HO] <;> iassumption
  iintro ⟨Ha, S11, HO, Hf⟩
  iapply Hk
  isplitl [Ha]; · iexact Ha
  isplitr [HO Hf]
  · isplitl [S00]; · iexact S00
    isplitl [S10]; · iexact S10
    isplitl [S01] <;> iassumption
  isplitl [HO] <;> iassumption

/-- The hops from hop `t` to the last. -/
theorem wp_hops (c : Dev nD) {f : (cc0_stg2_0 : Ref sig .tc).ty.Contents (Elt F)} {p : PROG F} {Q : PUnit → sProp 𝕄} :
    ∀ n t : ℕ, t + n = 14 →
    iprop((Inv X W K J ∗ four fun x s => ready (dst x c) x s 1) ∗ args X W c ∗ (four fun x s => St X W c x s t) ∗ ow c (oweQ c t) ∗ res c f)
      ⊢ iprop(((args X W c ∗ (four fun x s => EndSt c x s) ∗ ow c 0 ∗ res c (putAll X W c f)) -∗ WP c p Q)
        -∗ WP c (hopsK c (n + 1) t p) Q)
  | 0, t, h => by
    obtain rfl : t = 14 := h
    rw [oweQ_end]
    iintro ⟨⟨HI, -⟩, Ha, HS, HO, Hf⟩ Hk
    iapply (wp_last4 X W K J c (f := f) (p := p) (Q := Q)) $$ [HI Ha HS HO Hf] [Hk]
    · isplitl [HI]; · iexact HI
      isplitl [Ha]; · iexact Ha
      isplitl [HS]; · iexact HS
      isplitl [HO] <;> iassumption
    iexact Hk
  | n + 1, t, h => by
    show _ ⊢ iprop(_ -∗ WP c (fourK (hopK c t) (hopsK c (n + 1) (t + 1) p)) Q)
    have : BI.Persistent (four (F := F) fun x s => ready (dst x c) x s 1) := by unfold four; infer_instance
    iintro ⟨#HI, Ha, HS, HO, Hf⟩ Hk
    iapply (wp_hop4 X W K J c t (by omega)) $$ [Ha HS HO]
    · isplitr; · iexact HI
      isplitl [Ha]; · iexact Ha
      isplitl [HS] <;> iassumption
    iintro ⟨Ha, HS, HO⟩
    iapply (wp_hops c n (t + 1) (by omega)) $$ [Ha HS HO Hf] [Hk]
    · isplitr; · iexact HI
      isplitl [Ha]; · iexact Ha
      isplitl [HS]; · iexact HS
      isplitl [HO] <;> iassumption
    iexact Hk

/-! ## The start -/

/-- What ring `x`, sub-chunk `s` holds before its first copy, but for its slots; each of its receive slots has been released
`n` times. -/
def StartSt (n : ℕ) (c : Dev nD) (x s : Fin 2) : sProp 𝕄 :=
  iprop((atPos ER (cell c (kSnd x 0 s)) 0 ∅ 0 ∗ atPos ER (cell c (kSnd x 1 s)) 0 ∅ 0)
    ∗ (atPos ER (cell c (kRcv x 0 s)) 0 ∅ 0 ∗ atPos ER (cell c (kRcv x 1 s)) 0 ∅ 0)
    ∗ (readerAt ES (key c x 0 s) n ∗ readerAt ES (key c x 1 s) n)
    ∗ atPos ER (cell c (kCrd x s)) 0 ∅ 0 ∗ arrivals c x s 0 ∗ copyToks c x s 0 ∗ crdToks c x s 0 ∗ crdCreds c x s 0)

/-- Before the barrier the receive slots are released for the first two hops. -/
theorem give_first (c : Dev nD) (x k s : Fin 2) :
    iprop(Inv X W K J ∗ readerAt ES (key c x k s) 0 ∗ anySlot c (rcvM x) k s)
      ⊢ |={Set.univ}=> (iprop(readerAt ES (key c x k s) 1 ∗ ready c x s k.val) : sProp 𝕄) := by
  have hk : par k.val = k := Fin.ext (Nat.mod_eq_of_lt k.isLt)
  have hd : k.val / 2 = 0 := Nat.div_eq_of_lt k.isLt
  iintro ⟨#HI, Hr, Hs⟩
  ihave #HS := (Inv_slot X W K J c x k s) $$ HI
  imod (slot_release ES (Set.mem_univ (J (key c x k s))) (anySlot_excl c (rcvM x) k s) 0) $$ [Hr Hs] with ⟨Hr, #Hrel⟩
  · isplitr; · iexact HS
    isplitl [Hr] <;> iassumption
  imodintro
  isplitl [Hr]; · iexact Hr
  unfold ready; rw [hk, hd]
  isplitr; · iexact Hrel
  iapply (Inv_reached X W K J c (kRcv x k s)); iexact HI

/-- The first copy of ring `x`, sub-chunk `s`. -/
theorem wp_send0 (c : Dev nD) (x s : Fin 2) {O : CellTallies nD τ sig ℕ} {p : PROG F} {Q : PUnit → sProp 𝕄} :
    iprop(Inv X W K J ∗ ready (dst x c) x s 0 ∗ ready c x s 1 ∗ StartSt 1 c x s ∗ anySlot c (sndM x) 1 s
        ∗ owns (c : Thread nD τ) (slotV (sndM x) (par 0) s) fullShare (sendV X W x s 0 c) ∗ ow c (sT c x s 0 + O))
      ⊢ iprop(((St X W c x s 0 ∗ ow c O) -∗ WP c p Q) -∗ WP c (sendK c 0 x s p) Q) := by
  unfold StartSt copyToks
  rw [bigSep_Ico_pop (by omega : 0 < 15)]
  unfold copyTok
  iintro ⟨#HI, #Hr0, #Hr1, ⟨⟨HsA, HsB⟩, ⟨HrA, HrB⟩, ⟨Hd0, Hd1⟩, Hcrd, Harr, ⟨⟨Ht1, Ht2, Hw⟩, Hcp⟩, Hpay, Hcc⟩, Hfree, Hs, HO⟩ Hk
  iapply (wp_copy X W K J c 0 (by omega) x s) $$ [Hs HO Ht1 Ht2 Hw]
  · isplitr; · iexact HI
    isplitl [Hs]; · iexact Hs
    isplitl [HO]; · iexact HO
    isplitl [Ht1]; · iexact Ht1
    isplitr; · iapply (Inv_reached X W K J c (kSnd x (par 0) s)); iexact HI
    isplitl [Ht2]; · iexact Ht2
    isplitl [Hw]; · iexact Hw
    iexact Hr0
  iintro ⟨Hc, HO⟩
  iapply Hk
  isplitr [HO]; swap; · iexact HO
  unfold St sndSt rcvSt copyToks rdy
  rw [if_pos rfl, if_pos (by omega : 0 + 1 ≤ 14), show crdSt X W c x s 0
      = iprop(∃ T, ⌜T ⊆ Finset.range 13⌝ ∗ atPos ER (cell c (kCrd x s)) 0 T 0 ∗ bigSep T fun j => payOf X W c (kCrd x s) 0 j) from if_pos (by omega),
    show rSlot (F := F) c x s 0 = readerAt ES (key c x 0 s) 1 from if_pos (by omega),
    show rSlot (F := F) c x s (0 + 1) = readerAt ES (key c x 1 s) 1 from if_pos (by omega)]
  isplitl [HsA HsB Hc Hfree]
  · isplitl [HsA Hc]
    · isplitl [HsA]; · iexact HsA
      iexact Hc
    isplitl [HsB]; · iexact HsB
    iexact Hfree
  isplitl [HrA HrB Hd0 Hd1]
  · isplitl [HrA Hd0]
    · isplitl [HrA]; · iexact HrA
      iexact Hd0
    isplitl [HrB]; · iexact HrB
    iexact Hd1
  isplitl [Hcrd]
  · iexists (∅ : Finset ℕ)
    isplitr; · ipureintro; exact Finset.empty_subset _
    isplitl [Hcrd]; · iexact Hcrd
    rw [bigSep_empty]; iempintro
  isplitl [Harr]; · iexact Harr
  isplitl [Hcp]; · iexact Hcp
  isplitl [Hpay]; · iexact Hpay
  isplitl [Hcc]; · iexact Hcc
  iexact Hr1

/-- What device `c` owes after the barrier. -/
def O₁ (c : Dev nD) : CellTallies nD τ sig ℕ := sT c 0 0 0 + (sT c 1 0 0 + (sT c 0 1 0 + (sT c 1 1 0 + oweQ c 0)))
/-- What device `c` owes at its start. -/
def O₀ (c : Dev nD) : CellTallies nD τ sig ℕ := tallyAt (cell (devL c) kBar) 1 1 + (tallyAt (cell (devR c) kBar) 1 1 + O₁ c)

theorem Above_O₁ (c : Dev nD) : Above 1 (O₁ c) := by
  have h (x s : Fin 2) : Above 1 (sT c x s 0) := .tally _ _ _ _ (by omega) (by omega)
  have h' (x s : Fin 2) : Above 1 (oweK c x s 0) := (Above.oweK c x s 0).mono (by omega)
  exact (h 0 0).add ((h 1 0).add ((h 0 1).add ((h 1 1).add ((h' 0 0).add ((h' 1 0).add ((h' 0 1).add (h' 1 1)))))))

theorem Above_O₀ (c : Dev nD) : Above 0 (O₀ c) :=
  .add (.tally _ _ _ _ (by omega) (by omega)) (.add (.tally _ _ _ _ (by omega) (by omega)) ((Above_O₁ c).mono (by omega)))

/-- The slots of ring `x` on device `c` are ready for the first two hops. -/
def rdy2 (c : Dev nD) (x : Fin 2) : sProp 𝕄 := bigSep Finset.univ fun s : Fin 2 => iprop(ready c x s 0 ∗ ready c x s 1)

instance rdy2_persistent (c : Dev nD) (x : Fin 2) : BI.Persistent (rdy2 (F := F) c x) := by
  unfold rdy2; infer_instance

/-- The barrier: both neighbours are told that this device's slots are ready, and both say the same. -/
theorem wp_barrier (c : Dev nD) {p : PROG F} {Q : PUnit → sProp 𝕄} :
    iprop(Inv X W K J ∗ rdy2 c 0 ∗ rdy2 c 1 ∗ atPos ER (cell c kBar) 0 ∅ 0 ∗ dutyTok ER (cell (devL c) kBar) 0 0
        ∗ dutyTok ER (cell (devR c) kBar) 0 1 ∗ cred (tallyAt (cell c kBar) 1 2) ∗ ow c (O₀ c))
      ⊢ iprop(((rdy2 (dst 0 c) 0 ∗ rdy2 (dst 1 c) 1 ∗ atPos ER (cell c kBar) 1 ∅ 0 ∗ ow c (O₁ c)) -∗ WP c p Q)
        -∗ WP c (.op (.semSignal (Dev.tc (devL c)) barS 1) fun _ => .op (.semSignal (Dev.tc (devR c)) barS 1) fun _ =>
            .op (.semWait barS 2) fun _ => p) Q) := by
  have hd : dutiesOf kBar 0 = {0, 1} := rfl
  have hcell (c : Dev nD) : ((c : Thread nD τ), SemLoc.reg barS) = cell c kBar := rfl
  have hL : payOf X W (devL c) kBar 0 0 = rdy2 c 0 := by
    rw [payOf_bar]; show (bigSep Finset.univ fun s : Fin 2 => iprop(ready (devR (devL c)) 0 s 0 ∗ ready (devR (devL c)) 0 s 1)) = _
    rw [devR_devL]; rfl
  have hR : payOf X W (devR c) kBar 0 1 = rdy2 c 1 := by
    rw [payOf_bar]; show (bigSep Finset.univ fun s : Fin 2 => iprop(ready (devL (devR c)) 1 s 0 ∗ ready (devL (devR c)) 1 s 1)) = _
    rw [devL_devR]; rfl
  have hpay : bigSep ((Rd X W).duties (cell c kBar) 0 \ ∅) (fun d => (Rd X W).payload (cell c kBar) 0 d)
      = iprop(rdy2 (dst 0 c) 0 ∗ rdy2 (dst 1 c) 1) := by
    rw [Finset.sdiff_empty, Rd_duties, hd, bigSep_insert (by decide), bigSep_singleton, Rd_payload, Rd_payload, payOf_bar, payOf_bar]
    rfl
  unfold ow O₀
  iintro ⟨#HI, #H0, #H1, Hat, Ht0, Ht1, Hc, ⟨%W', HO⟩⟩ Hk
  iapply (Rounds.wp_signal 𝒱₀ ER (Rd X W) (c : Thread nD τ) none (dst := (devL c : Thread nD τ)) (κ := K (devL c, kBar))
      (r := 0) (d := 0) (by rw [hcell, Rd_duties, hd]; decide)
      (Rd_amount X W (devL c) kBar 0 0) 1 (tallyAt (cell (devR c) kBar) 1 1 + O₁ c) (add_comm _ _)) $$ [HO Ht0]
  · isplitr; · iapply (Inv_cell X W K J (devL c) kBar); iexact HI
    isplitl [HO]; · iexact HO
    isplitl [Ht0]; · iexact Ht0
    isplitr; · rw [hcell, Rd_payload, hL]; iexact H0
    iapply (Inv_reached X W K J (devL c) kBar); iexact HI
  iintro HO
  iapply (Rounds.wp_signal 𝒱₀ ER (Rd X W) (c : Thread nD τ) none (dst := (devR c : Thread nD τ)) (κ := K (devR c, kBar))
      (r := 0) (d := 1) (by rw [hcell, Rd_duties, hd]; decide)
      (Rd_amount X W (devR c) kBar 0 1) 1 (O₁ c) (add_comm _ _)) $$ [HO Ht1]
  · isplitr; · iapply (Inv_cell X W K J (devR c) kBar); iexact HI
    isplitl [HO]; · iexact HO
    isplitl [Ht1]; · iexact Ht1
    isplitr; · rw [hcell, Rd_payload, hR]; iexact H1
    iapply (Inv_reached X W K J (devR c) kBar); iexact HI
  iintro HO
  iapply (Rounds.wp_wait_rest_token 𝒱₀ ER (Rd X W) (c : Thread nD τ) none (κ := K (c, kBar)) (wpE_semWait_eq 𝒱₀ (c : Thread nD τ) none Set.univ)
      (Set.mem_univ _) 1 (O := O₁ c) (R := 0) (m := 0) (T := ∅) (by rw [hcell, Rd_expect, hd]; rfl)) $$ [Hc HO Hat]
  · isplitr; · iapply (Inv_cell X W K J c kBar); iexact HI
    isplitl [Hc]; · iexact Hc
    isplitl [HO]; · iexact HO
    isplitr; · iapply (Inv_mayWait X W K J c (SemLoc.reg barS) 1 (by omega) (Above_O₁ c)); iexact HI
    iexact Hat
  rw [hcell, hpay]
  iintro ⟨HO, Hat, -, HA, HB⟩
  iapply Hk
  isplitl [HA]; · iexact HA
  isplitl [HB]; · iexact HB
  isplitl [Hat]; · iexact Hat
  iexists _; iexact HO

/-- The first products of both rings and both sub-chunks. -/
theorem wp_first4 (c : Dev nD) {p : PROG F} {Q : PUnit → sProp 𝕄} :
    iprop(args X W c ∗ four fun x s => anySlot c (sndM x) 0 s)
      ⊢ iprop(((args X W c ∗ four fun x s => owns (c : Thread nD τ) (slotV (sndM x) (par 0) s) fullShare (sendV X W x s 0 c)) -∗ WP c p Q)
        -∗ WP c (fourK' (firstK c) p) Q) := by
  unfold four fourK'
  iintro ⟨Ha, S00, S10, S01, S11⟩ Hk
  iapply (wp_first X W c 0 0) $$ [Ha S00]
  · isplitl [Ha]; · iexact Ha
    iexact S00
  iintro ⟨Ha, S00⟩
  iapply (wp_first X W c 0 1) $$ [Ha S01]
  · isplitl [Ha]; · iexact Ha
    iexact S01
  iintro ⟨Ha, S01⟩
  iapply (wp_first X W c 1 0) $$ [Ha S10]
  · isplitl [Ha]; · iexact Ha
    iexact S10
  iintro ⟨Ha, S10⟩
  iapply (wp_first X W c 1 1) $$ [Ha S11]
  · isplitl [Ha]; · iexact Ha
    iexact S11
  iintro ⟨Ha, S11⟩
  iapply Hk
  isplitl [Ha]; · iexact Ha
  isplitl [S00]; · iexact S00
  isplitl [S10]; · iexact S10
  isplitl [S01] <;> iassumption

/-- What ring `x`, sub-chunk `s` holds before its first copy. -/
def SendSt (c : Dev nD) (x s : Fin 2) : sProp 𝕄 :=
  iprop(StartSt 1 c x s ∗ anySlot c (sndM x) 1 s ∗ owns (c : Thread nD τ) (slotV (sndM x) (par 0) s) fullShare (sendV X W x s 0 c))

/-- The first copies of both rings and both sub-chunks. -/
theorem wp_send4 (c : Dev nD) {p : PROG F} {Q : PUnit → sProp 𝕄} :
    iprop((Inv X W K J ∗ (four fun x s => ready (dst x c) x s 0) ∗ four fun x s => ready c x s 1) ∗ (four fun x s => SendSt X W c x s) ∗ ow c (O₁ c))
      ⊢ iprop((((four fun x s => St X W c x s 0) ∗ ow c (oweQ c 0)) -∗ WP c p Q) -∗ WP c (fourK (sendK c 0) p) Q) := by
  unfold four fourK O₁ SendSt
  iintro ⟨⟨#HI, ⟨#A00, #A10, #A01, #A11⟩, #B00, #B10, #B01, #B11⟩, ⟨S00, S10, S01, S11⟩, HO⟩ Hk
  iapply (wp_send0 X W K J c 0 0) $$ [S00 HO]
  · icases S00 with ⟨S1, S2, S3⟩
    isplitr; · iexact HI
    isplitr; · iexact A00
    isplitr; · iexact B00
    isplitl [S1]; · iexact S1
    isplitl [S2]; · iexact S2
    isplitl [S3] <;> iassumption
  iintro ⟨S00, HO⟩
  iapply (wp_send0 X W K J c 1 0) $$ [S10 HO]
  · icases S10 with ⟨S1, S2, S3⟩
    isplitr; · iexact HI
    isplitr; · iexact A10
    isplitr; · iexact B10
    isplitl [S1]; · iexact S1
    isplitl [S2]; · iexact S2
    isplitl [S3] <;> iassumption
  iintro ⟨S10, HO⟩
  iapply (wp_send0 X W K J c 0 1) $$ [S01 HO]
  · icases S01 with ⟨S1, S2, S3⟩
    isplitr; · iexact HI
    isplitr; · iexact A01
    isplitr; · iexact B01
    isplitl [S1]; · iexact S1
    isplitl [S2]; · iexact S2
    isplitl [S3] <;> iassumption
  iintro ⟨S01, HO⟩
  iapply (wp_send0 X W K J c 1 1) $$ [S11 HO]
  · icases S11 with ⟨S1, S2, S3⟩
    isplitr; · iexact HI
    isplitr; · iexact A11
    isplitr; · iexact B11
    isplitl [S1]; · iexact S1
    isplitl [S2]; · iexact S2
    isplitl [S3] <;> iassumption
  iintro ⟨S11, HO⟩
  iapply Hk
  isplitr [HO]; swap; · iexact HO
  isplitl [S00]; · iexact S00
  isplitl [S10]; · iexact S10
  isplitl [S01] <;> iassumption

/-! ## The end -/

/-- A last wait for a copy to have been sent. -/
theorem wp_sent (c : Dev nD) (x s : Fin 2) (t : ℕ) (ht : t ≤ 14) {p : PROG F} {Q : PUnit → sProp 𝕄} :
    iprop(Inv X W K J ∗ (atPos ER (cell c (kSnd x (par t) s)) (t / 2) ∅ 0 ∗ cred (tallyAt (cell c (kSnd x (par t) s)) 0 N)) ∗ ow c 0)
      ⊢ iprop((((atPos ER (cell c (kSnd x (par t) s)) (t / 2 + 1) ∅ 0 ∗ anySlot c (sndM x) (par t) s) ∗ ow c 0) -∗ WP c p Q)
        -∗ WP c (waitSentK t x s p) Q) := by
  have hp : 2 * (t / 2) + (par t).val = t := by show 2 * (t / 2) + t % 2 = t; omega
  unfold waitSentK
  iintro ⟨#HI, ⟨Hat, Hc⟩, HO⟩ Hk
  iapply (wp_slot_wait X W K J c false x (par t) s (t / 2) 0 (by omega) (by omega) Above.zero (sem := slotS (sndA x) (par t) s)
    (m := slotV (sndM x) (par t) s) rfl (credit_snd x (par t) s)) $$ [Hc HO Hat]
  · isplitr; · iexact HI
    isplitl [Hc]; · iexact Hc
    isplitl [HO] <;> iassumption
  rw [payOf_snd]
  iintro ⟨HO, Hat, -, Hp⟩
  iapply Hk
  isplitl [Hat Hp]; · isplitl [Hat] <;> iassumption
  iexact HO

/-- The last waits of one hop, for both rings and both sub-chunks. -/
theorem wp_sent4 (c : Dev nD) (t : ℕ) (ht : t ≤ 14) {p : PROG F} {Q : PUnit → sProp 𝕄} :
    iprop(Inv X W K J ∗ (four fun x s => iprop(atPos ER (cell c (kSnd x (par t) s)) (t / 2) ∅ 0 ∗ cred (tallyAt (cell c (kSnd x (par t) s)) 0 N))) ∗ ow c 0)
      ⊢ iprop((((four fun x s => iprop(atPos ER (cell c (kSnd x (par t) s)) (t / 2 + 1) ∅ 0 ∗ anySlot c (sndM x) (par t) s)) ∗ ow c 0) -∗ WP c p Q)
        -∗ WP c (fourK' (waitSentK t) p) Q) := by
  unfold four fourK'
  iintro ⟨#HI, ⟨S00, S10, S01, S11⟩, HO⟩ Hk
  iapply (wp_sent X W K J c 0 0 t ht) $$ [S00 HO]
  · isplitr; · iexact HI
    isplitl [S00] <;> iassumption
  iintro ⟨S00, HO⟩
  iapply (wp_sent X W K J c 0 1 t ht) $$ [S01 HO]
  · isplitr; · iexact HI
    isplitl [S01] <;> iassumption
  iintro ⟨S01, HO⟩
  iapply (wp_sent X W K J c 1 0 t ht) $$ [S10 HO]
  · isplitr; · iexact HI
    isplitl [S10] <;> iassumption
  iintro ⟨S10, HO⟩
  iapply (wp_sent X W K J c 1 1 t ht) $$ [S11 HO]
  · isplitr; · iexact HI
    isplitl [S11] <;> iassumption
  iintro ⟨S11, HO⟩
  iapply Hk
  isplitr [HO]; swap; · iexact HO
  isplitl [S00]; · iexact S00
  isplitl [S10]; · iexact S10
  isplitl [S01] <;> iassumption

/-- A semaphore past its last round is zero. -/
theorem close (c : Dev nD) (κ : Kd) (R : ℕ) (h : ∀ r, R ≤ r → dutiesOf κ r = ∅) :
    iprop(Inv X W K J ∗ atPos ER (cell c κ) R ∅ 0) ⊢ |={Set.univ}=> (semVal (cell c κ) 0 : sProp 𝕄) := by
  iintro ⟨#HI, Hat⟩
  iapply (cell_close ER (Rd X W) (κ := K (c, κ)) (Set.mem_univ _) (fun h => h) (R := R)
    (fun r hr => by rw [Rd_duties]; exact h r hr))
  isplitr; · iapply (Inv_cell X W K J c κ); iexact HI
  iexact Hat

/-- The semaphores of ring `x`, sub-chunk `s`, at zero. -/
def semsZ (c : Dev nD) (x s : Fin 2) : sProp 𝕄 :=
  iprop(semVal (cell c (kSnd x 0 s)) 0 ∗ semVal (cell c (kSnd x 1 s)) 0 ∗ semVal (cell c (kRcv x 0 s)) 0 ∗ semVal (cell c (kRcv x 1 s)) 0
    ∗ semVal (cell c (kCrd x s)) 0)
/-- The slots of ring `x`, sub-chunk `s`. -/
def slots4 (c : Dev nD) (x s : Fin 2) : sProp 𝕄 :=
  iprop(anySlot c (sndM x) 0 s ∗ anySlot c (sndM x) 1 s ∗ anySlot c (rcvM x) 0 s ∗ anySlot c (rcvM x) 1 s)

/-- What is left after the last waits: every semaphore at zero, every slot held. -/
theorem finish (c : Dev nD) (x s : Fin 2) :
    iprop(Inv X W K J ∗ (atPos ER (cell c (kSnd x (par 13) s)) 7 ∅ 0 ∗ anySlot c (sndM x) (par 13) s)
        ∗ (atPos ER (cell c (kSnd x (par 14) s)) 8 ∅ 0 ∗ anySlot c (sndM x) (par 14) s)
        ∗ rcvSt c x s 15 ∗ atPos ER (cell c (kCrd x s)) 1 ∅ 0)
      ⊢ |={Set.univ}=> (iprop(semsZ c x s ∗ slots4 c x s) : sProp 𝕄) := by
  have hslot (b : Bool) (k : Fin 2) (R : ℕ) (h : 14 < 2 * R + k.val) (r : ℕ) (hr : R ≤ r) : dutiesOf (some (.inl (b, x, k, s))) r = ∅ :=
    if_neg (by omega)
  unfold rcvSt
  rw [show rSlot (F := F) c x s 15 = anySlot c (rcvM x) 1 s from if_neg (by omega),
    show rSlot (F := F) c x s (15 + 1) = anySlot c (rcvM x) 0 s from if_neg (by omega)]
  iintro ⟨#HI, ⟨S1, F1⟩, ⟨S0, F0⟩, ⟨⟨R1, G1⟩, R0, G0⟩, C⟩
  imod (close X W K J c (kSnd x 0 s) 8 (hslot false 0 8 (by decide))) $$ [S0] with S0
  · isplitr; · iexact HI
    iexact S0
  imod (close X W K J c (kSnd x 1 s) 7 (hslot false 1 7 (by decide))) $$ [S1] with S1
  · isplitr; · iexact HI
    iexact S1
  imod (close X W K J c (kRcv x 0 s) 8 (hslot true 0 8 (by decide))) $$ [R0] with R0
  · isplitr; · iexact HI
    iexact R0
  imod (close X W K J c (kRcv x 1 s) 7 (hslot true 1 7 (by decide))) $$ [R1] with R1
  · isplitr; · iexact HI
    iexact R1
  imod (close X W K J c (kCrd x s) 1 (fun r hr => if_neg (by omega))) $$ [C] with C
  · isplitr; · iexact HI
    iexact C
  imodintro
  unfold semsZ slots4
  isplitl [S0 S1 R0 R1 C]
  · isplitl [S0]; · iexact S0
    isplitl [S1]; · iexact S1
    isplitl [R0]; · iexact R0
    isplitl [R1]; · iexact R1
    iexact C
  isplitl [F0]; · iexact F0
  isplitl [F1]; · iexact F1
  isplitl [G0]; · iexact G0
  iexact G1

/-- Both receive slots of ring `x`, sub-chunk `s` are released. -/
theorem give_two (c : Dev nD) (x s : Fin 2) :
    iprop(Inv X W K J ∗ StartSt 0 c x s ∗ slots4 c x s)
      ⊢ |={Set.univ}=> (iprop((StartSt 1 c x s ∗ anySlot c (sndM x) 0 s ∗ anySlot c (sndM x) 1 s) ∗ ready c x s 0 ∗ ready c x s 1) : sProp 𝕄) := by
  unfold StartSt slots4
  iintro ⟨#HI, ⟨HA, HB, ⟨D0, D1⟩, HC⟩, F0, F1, G0, G1⟩
  imod (give_first X W K J c x 0 s) $$ [D0 G0] with ⟨D0, #R0⟩
  · isplitr; · iexact HI
    isplitl [D0] <;> iassumption
  imod (give_first X W K J c x 1 s) $$ [D1 G1] with ⟨D1, #R1⟩
  · isplitr; · iexact HI
    isplitl [D1] <;> iassumption
  imodintro
  isplitl
  · isplitr [F0 F1]
    · isplitl [HA]; · iexact HA
      isplitl [HB]; · iexact HB
      isplitr [HC]
      · isplitl [D0] <;> iassumption
      iexact HC
    isplitl [F0] <;> iassumption
  isplitr; · iexact R0
  iexact R1

/-- What device `c` holds of the barrier at its start. -/
def barSt (c : Dev nD) : sProp 𝕄 :=
  iprop(atPos ER (cell c kBar) 0 ∅ 0 ∗ dutyTok ER (cell (devL c) kBar) 0 0 ∗ dutyTok ER (cell (devR c) kBar) 0 1 ∗ cred (tallyAt (cell c kBar) 1 2))

/-- The whole body. -/
theorem wp_bodyK (c : Dev nD) {f : (cc0_stg2_0 : Ref sig .tc).ty.Contents (Elt F)} {Q : PUnit → sProp 𝕄} :
    iprop(Inv X W K J ∗ args X W c ∗ res c f ∗ ow c (O₀ c) ∗ barSt c ∗ (four fun x s => StartSt 0 c x s) ∗ four fun x s => slots4 c x s)
      ⊢ iprop(((args X W c ∗ res c (putAll X W c f) ∗ ow c 0 ∗ semVal (cell c kBar) 0 ∗ (four fun x s => semsZ c x s) ∗ four fun x s => slots4 c x s)
          -∗ WP c (.ret ⟨⟩) Q) -∗ WP c (bodyK c) Q) := by
  unfold barSt
  iintro ⟨#HI, Ha, Hf, HO, ⟨Hat, Hd0, Hd1, Hcr⟩, HS, HL⟩ Hk
  unfold four
  icases HS with ⟨S00, S10, S01, S11⟩
  icases HL with ⟨L00, L10, L01, L11⟩
  imod (give_two X W K J c 0 0) $$ [S00 L00] with ⟨⟨S00, L00, M00⟩, #A00, #B00⟩
  · isplitr; · iexact HI
    isplitl [S00] <;> iassumption
  imod (give_two X W K J c 1 0) $$ [S10 L10] with ⟨⟨S10, L10, M10⟩, #A10, #B10⟩
  · isplitr; · iexact HI
    isplitl [S10] <;> iassumption
  imod (give_two X W K J c 0 1) $$ [S01 L01] with ⟨⟨S01, L01, M01⟩, #A01, #B01⟩
  · isplitr; · iexact HI
    isplitl [S01] <;> iassumption
  imod (give_two X W K J c 1 1) $$ [S11 L11] with ⟨⟨S11, L11, M11⟩, #A11, #B11⟩
  · isplitr; · iexact HI
    isplitl [S11] <;> iassumption
  unfold bodyK
  iapply (wp_barrier X W K J c) $$ [Hat Hd0 Hd1 Hcr HO]
  · isplitr; · iexact HI
    isplitr
    · unfold rdy2; rw [bigSep_two]
      isplitr
      · isplitr; · iexact A00
        iexact B00
      isplitr; · iexact A01
      iexact B01
    isplitr
    · unfold rdy2; rw [bigSep_two]
      isplitr
      · isplitr; · iexact A10
        iexact B10
      isplitr; · iexact A11
      iexact B11
    isplitl [Hat]; · iexact Hat
    isplitl [Hd0]; · iexact Hd0
    isplitl [Hd1]; · iexact Hd1
    isplitl [Hcr] <;> iassumption
  unfold rdy2; rw [bigSep_two, bigSep_two]
  iintro ⟨⟨⟨#C00, #D00⟩, #C01, #D01⟩, ⟨⟨#C10, #D10⟩, #C11, #D11⟩, Hat, HO⟩
  iapply (wp_first4 X W c) $$ [Ha L00 L10 L01 L11]
  · unfold four
    isplitl [Ha]; · iexact Ha
    isplitl [L00]; · iexact L00
    isplitl [L10]; · iexact L10
    isplitl [L01] <;> iassumption
  unfold four
  iintro ⟨Ha, L00, L10, L01, L11⟩
  iapply (wp_send4 X W K J c) $$ [HO S00 S10 S01 S11 L00 L10 L01 L11 M00 M10 M01 M11]
  · unfold four SendSt
    isplitr
    · isplitr; · iexact HI
      isplitr
      · isplitr; · iexact C00
        isplitr; · iexact C10
        isplitr; · iexact C01
        iexact C11
      isplitr; · iexact B00
      isplitr; · iexact B10
      isplitr; · iexact B01
      iexact B11
    isplitr [HO]; swap; · iexact HO
    isplitl [S00 L00 M00]
    · isplitl [S00]; · iexact S00
      isplitl [M00] <;> iassumption
    isplitl [S10 L10 M10]
    · isplitl [S10]; · iexact S10
      isplitl [M10] <;> iassumption
    isplitl [S01 L01 M01]
    · isplitl [S01]; · iexact S01
      isplitl [M01] <;> iassumption
    isplitl [S11]; · iexact S11
    isplitl [M11] <;> iassumption
  iintro ⟨HS, HO⟩
  iapply (wp_hops X W K J c (f := f) 14 0 rfl) $$ [Ha HS HO Hf]
  · isplitr
    · isplitr; · iexact HI
      unfold four
      isplitr; · iexact D00
      isplitr; · iexact D10
      isplitr; · iexact D01
      iexact D11
    isplitl [Ha]; · iexact Ha
    isplitl [HS]; · iexact HS
    isplitl [HO] <;> iassumption
  unfold four EndSt sndSt
  iintro ⟨Ha, ⟨⟨⟨P00, N00⟩, R00, C00⟩, ⟨⟨P10, N10⟩, R10, C10⟩, ⟨⟨P01, N01⟩, R01, C01⟩, ⟨P11, N11⟩, R11, C11⟩, HO, Hf⟩
  iapply (wp_sent4 X W K J c 13 (by omega)) $$ [N00 N10 N01 N11 HO]
  · unfold four
    isplitr; · iexact HI
    isplitr [HO]; swap; · iexact HO
    isplitl [N00]; · iexact N00
    isplitl [N10]; · iexact N10
    isplitl [N01]; · iexact N01
    iexact N11
  unfold four
  iintro ⟨⟨N00, N10, N01, N11⟩, HO⟩
  iapply (wp_sent4 X W K J c 14 (by omega)) $$ [P00 P10 P01 P11 HO]
  · unfold four
    isplitr; · iexact HI
    isplitr [HO]; swap; · iexact HO
    isplitl [P00]; · iexact P00
    isplitl [P10]; · iexact P10
    isplitl [P01]; · iexact P01
    iexact P11
  unfold four
  iintro ⟨⟨P00, P10, P01, P11⟩, HO⟩
  imod (finish X W K J c 0 0) $$ [N00 P00 R00 C00] with ⟨Z00, Y00⟩
  · isplitr; · iexact HI
    isplitl [N00]; · iexact N00
    isplitl [P00]; · iexact P00
    isplitl [R00] <;> iassumption
  imod (finish X W K J c 1 0) $$ [N10 P10 R10 C10] with ⟨Z10, Y10⟩
  · isplitr; · iexact HI
    isplitl [N10]; · iexact N10
    isplitl [P10]; · iexact P10
    isplitl [R10] <;> iassumption
  imod (finish X W K J c 0 1) $$ [N01 P01 R01 C01] with ⟨Z01, Y01⟩
  · isplitr; · iexact HI
    isplitl [N01]; · iexact N01
    isplitl [P01]; · iexact P01
    isplitl [R01] <;> iassumption
  imod (finish X W K J c 1 1) $$ [N11 P11 R11 C11] with ⟨Z11, Y11⟩
  · isplitr; · iexact HI
    isplitl [N11]; · iexact N11
    isplitl [P11]; · iexact P11
    isplitl [R11] <;> iassumption
  imod (close X W K J c kBar 1 (fun r hr => if_neg (by omega))) $$ [Hat] with Hat
  · isplitr; · iexact HI
    iexact Hat
  iapply Hk
  isplitl [Ha]; · iexact Ha
  isplitl [Hf]; · iexact Hf
  isplitl [HO]; · iexact HO
  isplitl [Hat]; · iexact Hat
  isplitl [Z00 Z10 Z01 Z11]
  · isplitl [Z00]; · iexact Z00
    isplitl [Z10]; · iexact Z10
    isplitl [Z01] <;> iassumption
  isplitl [Y00]; · iexact Y00
  isplitl [Y10]; · iexact Y10
  isplitl [Y01] <;> iassumption

end Cert.KernelIdeal.Ring

end
-- ==== Proof.KernelIdeal.Whole.lean ====
module
public import proofs.«01_k».proof.Proof.KernelIdeal.Body

/-! Whole buffers and their slots; the result block; the body as the launch asks for it. -/

@[expose] public section

set_option maxRecDepth 10000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## A buffer is its four slots -/

omit [FloatOps F] in
/-- Something for each of four, the second component outermost. -/
theorem bigSep_four (Φ : Fin 2 × Fin 2 → sProp 𝕄) : bigSep Finset.univ Φ = four fun a b => Φ (a, b) := by
  rw [bigSep_univ_eq_bigSepL [(0, 0), (1, 0), (0, 1), (1, 1)] (by decide) (by decide)]; rfl

/-- The elements of a slot. -/
def slotSet (c : Dev nD) (m : Memref sig .tc .vmem S2x2x128x512 .f32) (y : Fin 2 × Fin 2) : Finset (Idx (m.view.loc (c : Thread nD τ))) :=
  (slotV m y.1 y.2).view.set

theorem slotSet_eq (c : Dev nD) (m : Memref sig .tc .vmem S2x2x128x512 .f32) (y : Fin 2 × Fin 2) :
    slotSet c m y = (slotR y.1 y.2).set.map m.view.emb := (slot_set m y.1 y.2).trans (View.set_slice _ _)

theorem slotSet_disjoint (c : Dev nD) (m : Memref sig .tc .vmem S2x2x128x512 .f32) (y y' : Fin 2 × Fin 2) (h : y ≠ y') :
    Disjoint (slotSet c m y) (slotSet c m y') := by
  rw [slotSet_eq, slotSet_eq, Finset.disjoint_map]
  refine Finset.disjoint_left.mpr fun i hi hi' => h ?_
  rw [Rect.mem_set_unit] at hi hi'
  have a := hi 0; have b := hi 1; have a' := hi' 0; have b' := hi' 1
  simp only [Matrix.cons_val_zero, Matrix.cons_val_one] at a b a' b'
  have e0 : S1x1x128x512.size 0 = 1 := rfl
  have e1 : S1x1x128x512.size 1 = 1 := rfl
  exact Prod.ext (Fin.ext (by omega)) (Fin.ext (by omega))

theorem slotSet_union (c : Dev nD) (m : Memref sig .tc .vmem S2x2x128x512 .f32) :
    Finset.univ.biUnion (slotSet c m) = (m.view.set : Finset (Idx (m.view.loc (c : Thread nD τ)))) := by
  refine Finset.ext fun i => ⟨fun hi => ?_, fun hi => ?_⟩
  · obtain ⟨y, -, hy⟩ := Finset.mem_biUnion.mp hi
    rw [slotSet_eq] at hy
    obtain ⟨x, -, rfl⟩ := Finset.mem_map.mp hy
    exact View.emb_mem_set _ x
  · obtain ⟨x, -, rfl⟩ := Finset.mem_map.mp hi
    have h0 : (x 0).val < 2 := (x 0).isLt
    have h1 : (x 1).val < 2 := (x 1).isLt
    refine Finset.mem_biUnion.mpr ⟨(⟨(x 0).val, h0⟩, ⟨(x 1).val, h1⟩), Finset.mem_univ _, ?_⟩
    rw [slotSet_eq]
    refine Finset.mem_map_of_mem _ (Rect.mem_set_unit.mpr fun a => ?_)
    fin_cases a
    · exact ⟨le_refl _, Nat.lt_succ_self _⟩
    · exact ⟨le_refl _, Nat.lt_succ_self _⟩
    · exact ⟨Nat.zero_le _, show (x 2).val < 0 + 128 from by rw [Nat.zero_add]; exact (x 2).isLt⟩
    · exact ⟨Nat.zero_le _, show (x 3).val < 0 + 512 from by rw [Nat.zero_add]; exact (x 3).isLt⟩

/-- A buffer held whole is its four slots held. -/
theorem slots_of_whole (c : Dev nD) (m : Memref sig .tc .vmem S2x2x128x512 .f32) (f : Buf (Elt F) (m.view.loc (c : Thread nD τ))) :
    (m.view.loc (c : Thread nD τ) ↦[m.view.set]{fullShare} f : sProp 𝕄) ⊢ four fun k s => anySlot c m k s := by
  rw [← slotSet_union c m, pointsTo_biUnion Finset.univ (slotSet c m) (fun y _ y' _ h => slotSet_disjoint c m y y' h), bigSep_four]
  unfold four anySlot slot
  iintro ⟨H00, H10, H01, H11⟩
  isplitl [H00]; · iexists f; iexact H00
  isplitl [H10]; · iexists f; iexact H10
  isplitl [H01]; · iexists f; iexact H01
  iexists f; iexact H11

/-- Four slots held are the buffer held whole. -/
theorem whole_of_slots (c : Dev nD) (m : Memref sig .tc .vmem S2x2x128x512 .f32) :
    (four fun k s => anySlot c m k s) ⊢ (iprop(∃ f, m.view.loc (c : Thread nD τ) ↦[m.view.set]{fullShare} f) : sProp 𝕄) := by
  have h := bigSep_four (F := F) fun y => anySlot c m y.1 y.2
  rw [← h]
  have h2 : bigSep Finset.univ (fun y : Fin 2 × Fin 2 => (anySlot c m y.1 y.2 : sProp 𝕄))
      ⊢ iprop(∃ fs : (Fin 2 × Fin 2) → Buf (Elt F) (m.view.loc (c : Thread nD τ)),
          bigSep Finset.univ fun y => m.view.loc (c : Thread nD τ) ↦[slotSet c m y]{fullShare} fs y) :=
    BI.bigSep_exists_pi Finset.univ fun (y : Fin 2 × Fin 2) (f : Buf (Elt F) (m.view.loc (c : Thread nD τ))) =>
      (m.view.loc (c : Thread nD τ) ↦[slotSet c m y]{fullShare} f : sProp 𝕄)
  refine h2.trans ?_
  iintro ⟨%fs, H⟩
  ihave H := (pointsTo_biUnion_join Finset.univ (slotSet c m) fs (fs (0, 0)) (fun y _ y' _ h => slotSet_disjoint c m y y' h)) $$ H
  icases H with ⟨%g, -, H⟩
  rw [slotSet_union]
  iexists g; iexact H

/-- The slots of both rings, ring by ring. -/
def scrAll (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The scratch buffers are the slots. -/
theorem slots_of_scr (c : Dev nD) : scrAll (F := F) c ⊢ four fun x s => slots4 c x s := by
  have h (b : Ref sig .tc) (m : Memref sig .tc .vmem S2x2x128x512 .f32) (hl : m.view.loc (c : Thread nD τ) = (c : Thread nD τ).loc b)
      (hm : (m.view.set : Finset (Idx (m.view.loc (c : Thread nD τ)))) = Finset.univ) :
      (iprop(∃ f : Buf (Elt F) ((c : Thread nD τ).loc b), ((c : Thread nD τ).loc b) ↦{fullShare} f) : sProp 𝕄) ⊢ four fun k s => anySlot c m k s := by
    rw [← hl]
    iintro ⟨%f, H⟩
    iapply (slots_of_whole c m f)
    rw [hm]; iexact H
  unfold scrAll
  iintro ⟨H0, H1, H2, H3⟩
  ihave H0 := (h cc0_scratch0 (sndM 0) rfl (View.set_whole _)) $$ H0
  ihave H1 := (h cc0_scratch1 (rcvM 0) rfl (View.set_whole _)) $$ H1
  ihave H2 := (h cc0_scratch2 (sndM 1) rfl (View.set_whole _)) $$ H2
  ihave H3 := (h cc0_scratch3 (rcvM 1) rfl (View.set_whole _)) $$ H3
  unfold four slots4
  icases H0 with ⟨A00, A10, A01, A11⟩
  icases H1 with ⟨B00, B10, B01, B11⟩
  icases H2 with ⟨C00, C10, C01, C11⟩
  icases H3 with ⟨D00, D10, D01, D11⟩
  isplitl [A00 A10 B00 B10]
  · isplitl [A00]; · iexact A00
    isplitl [A10]; · iexact A10
    isplitl [B00] <;> iassumption
  isplitl [C00 C10 D00 D10]
  · isplitl [C00]; · iexact C00
    isplitl [C10]; · iexact C10
    isplitl [D00] <;> iassumption
  isplitl [A01 A11 B01 B11]
  · isplitl [A01]; · iexact A01
    isplitl [A11]; · iexact A11
    isplitl [B01] <;> iassumption
  isplitl [C01]; · iexact C01
  isplitl [C11]; · iexact C11
  isplitl [D01] <;> iassumption

/-- The slots are the scratch buffers. -/
theorem scr_of_slots (c : Dev nD) : (four fun x s => slots4 (F := F) c x s) ⊢ scrAll c := by
  have h (b : Ref sig .tc) (m : Memref sig .tc .vmem S2x2x128x512 .f32) (hl : m.view.loc (c : Thread nD τ) = (c : Thread nD τ).loc b)
      (hm : (m.view.set : Finset (Idx (m.view.loc (c : Thread nD τ)))) = Finset.univ) :
      (four fun k s => anySlot c m k s) ⊢ (iprop(∃ f : Buf (Elt F) ((c : Thread nD τ).loc b), ((c : Thread nD τ).loc b) ↦{fullShare} f) : sProp 𝕄) := by
    rw [← hl]
    refine (whole_of_slots c m).trans ?_
    rw [hm]
  unfold scrAll
  unfold four slots4
  iintro ⟨⟨A00, A10, B00, B10⟩, ⟨C00, C10, D00, D10⟩, ⟨A01, A11, B01, B11⟩, C01, C11, D01, D11⟩
  isplitl [A00 A10 A01 A11]
  · iapply (h cc0_scratch0 (sndM 0) rfl (View.set_whole _)); unfold four
    isplitl [A00]; · iexact A00
    isplitl [A10]; · iexact A10
    isplitl [A01] <;> iassumption
  isplitl [B00 B10 B01 B11]
  · iapply (h cc0_scratch1 (rcvM 0) rfl (View.set_whole _)); unfold four
    isplitl [B00]; · iexact B00
    isplitl [B10]; · iexact B10
    isplitl [B01] <;> iassumption
  isplitl [C00 C10 C01 C11]
  · iapply (h cc0_scratch2 (sndM 1) rfl (View.set_whole _)); unfold four
    isplitl [C00]; · iexact C00
    isplitl [C10]; · iexact C10
    isplitl [C01] <;> iassumption
  iapply (h cc0_scratch3 (rcvM 1) rfl (View.set_whole _)); unfold four
  isplitl [D00]; · iexact D00
  isplitl [D10]; · iexact D10
  isplitl [D01] <;> iassumption

/-! ## The result block -/

section

variable (X : Dev nD → (cc0_stg0_0 : Ref sig .tc).ty.Contents (Elt F)) (W : Dev nD → (cc0_stg1_0 : Ref sig .tc).ty.Contents (Elt F))

/-- The four stores cover the result block, so what it held does not matter. -/
theorem putAll_base (c : Dev nD) (f g : (cc0_stg2_0 : Ref sig .tc).ty.Contents (Elt F)) : putAll X W c f = putAll X W c g := by
  refine funext fun (i : S128x2048.Idx) => ?_
  have hset (x s : Fin 2) (h : i ∉ (oM.access (colR x s)).setOn Finset.univ) : ¬(1024 * x.val + 512 * s.val ≤ (i 1).val ∧ (i 1).val < 1024 * x.val + 512 * s.val + 512) := by
    rw [View.setOn_univ] at h
    have h' : i ∉ (colR x s).set := fun hm => h ((View.set_slice_whole cc0_stg2_0 (colR x s)).symm ▸ hm)
    rw [Rect.mem_set_unit] at h'
    intro hh
    refine h' fun a => ?_
    fin_cases a
    · exact ⟨Nat.zero_le _, (show (i 0).val < 0 + 128 from by rw [Nat.zero_add]; exact (i 0).isLt)⟩
    · exact hh
  have hi : (i 1).val < 2048 := (i 1).isLt
  unfold putAll putCol
  refine View.write_congr (fun _ _ _ => rfl) fun h11 => ?_
  refine View.write_congr (fun _ _ _ => rfl) fun h01 => ?_
  refine View.write_congr (fun _ _ _ => rfl) fun h10 => ?_
  refine View.write_congr (fun _ _ _ => rfl) fun h00 => ?_
  have a11 := hset 1 1 h11; have a01 := hset 0 1 h01; have a10 := hset 1 0 h10; have a00 := hset 0 0 h00
  simp only [Fin.val_zero, Fin.val_one] at a11 a01 a10 a00
  omega

/-- The result block of device `c`. -/
def outBlk (c : Dev nD) : (cc0_stg2_0 : Ref sig .tc).ty.Contents (Elt F) := putAll X W c (W c)

end

/-! ## The pipeline's data -/

section

variable (m : (ℓ : Loc nD τ sig) → Buf (Elt F) ℓ) (ρ : Dev nD → PrngReg)

/-- The state at the launch. -/
def s₀ : MemSt nD τ sig (Elt F) := ⟨m, fun _ => 0, ρ⟩

/-- The first argument's block, staged. -/
def X₀ (c : Dev nD) : (cc0_stg0_0 : Ref sig .tc).ty.Contents (Elt F) :=
  (win0_0.blk (0 : Fin 1)).view.read (Elt F) ((s₀ m ρ).mem ((c : Thread nD τ).loc main_arg0))
/-- The second argument's block, staged. -/
def W₀ (c : Dev nD) : (cc0_stg1_0 : Ref sig .tc).ty.Contents (Elt F) :=
  (win0_1.blk (0 : Fin 1)).view.read (Elt F) ((s₀ m ρ).mem ((c : Thread nD τ).loc main_arg1))

/-- What device `c`'s body starts from, but for its scratch buffers. -/
def start (c : Dev nD) : sProp 𝕄 :=
  iprop(∃ K J, Inv (X₀ m ρ) (W₀ m ρ) K J ∗ barSt c ∗ four fun x s => StartSt 0 c x s)

def Φ₀ (c : Dev nD) : sProp 𝕄 := iprop(start m ρ c ∗ four fun x s => slots4 c x s)
/-- After the body: the semaphores at zero, and the slots. -/
def Φ₁ (c : Dev nD) : sProp 𝕄 := iprop(semVal (cell c kBar) 0 ∗ (four fun x s => semsZ c x s) ∗ four fun x s => slots4 c x s)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => X₀ m ρ c
    | ⟨1, _⟩ => W₀ m ρ c
    | ⟨2, _⟩ => outBlk (X₀ m ρ) (W₀ m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (V : b.ty.Contents (Elt F)) :
    (owns (Ix := ℕ) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- A staged buffer at contents `V`. -/
abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ ∗ stg c cc0_stg0_0 (X₀ m ρ c) ∗ stg c cc0_stg1_0 (W₀ m ρ c)
    ∗ stg c cc0_stg2_0 (outBlk (X₀ m ρ) (W₀ m ρ) c))

/-- The body run from what the launch hands it. -/
theorem sound_body (c : Dev nD) : bodyPre m ρ c ⊢ WP c (bodyK c) fun _ => bodyPost m ρ c := by
  unfold bodyPre Φ₀ start
  iintro ⟨⟨⟨%K, %J, #HI, Hb, HS⟩, HL⟩, Ho, ⟨%d0, %g0, %hg0, Hx⟩, ⟨%d1, %g1, %hg1, Hw⟩, ⟨%d2, %g2, %hg2, Hout⟩⟩
  have hx : g0 = X₀ m ρ c := by rw [hg0]; unfold Pipeline.Dat.before; rw [if_pos (fetch0_0 t0_0)]; rfl
  have hw : g1 = W₀ m ρ c := by rw [hg1]; unfold Pipeline.Dat.before; rw [if_pos (fetch0_1 t0_0)]; rfl
  subst hx hw
  unfold Pipeline.Dat.owesAt Pipeline.owesWithin
  icases Ho with ⟨%V, %hV, HO⟩
  rw [show (dats m ρ 0 c).owed t0_0.castSucc = O₀ c from rfl]
  iapply (wp_bodyK (X₀ m ρ) (W₀ m ρ) K J c (f := g2)) $$ [Hx Hw Hout HO Hb HS HL]
  · isplitr; · iexact HI
    isplitl [Hx Hw]; · unfold args; isplitl [Hx] <;> iassumption
    isplitl [Hout]; · unfold res; iexact Hout
    isplitl [HO]; · unfold ow; iexists V; iexact HO
    isplitl [Hb]; · iexact Hb
    isplitl [HS] <;> iassumption
  unfold args res ow
  iintro ⟨⟨Hx, Hw⟩, Hout, ⟨%V', HO⟩, Hz, HZ, HL⟩
  unfold WP; rw [wp_ret]; imodintro
  unfold bodyPost Φ₁ Pipeline.Dat.owesAt Pipeline.owesWithin
  rw [show (dats m ρ 0 c).owed t0_0.succ = 0 from rfl]
  isplitl [Hz HZ HL]
  · isplitl [Hz]; · iexact Hz
    isplitl [HZ] <;> iassumption
  isplitl [HO]
  · iexists V'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; exact putAll_base (X₀ m ρ) (W₀ m ρ) c g2 (W₀ m ρ c))
  iexact Hout

set_option maxRecDepth 100000 in
/-- The launch's obligation on the body. -/
theorem body_obligation (c : Dev nD) : Pipeline.BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 t0_0) (fun _ => bodyPost m ρ c)
  rw [body_eq, wp_deviceId]
  exact sound_body m ρ c

end

end Cert.KernelIdeal.Ring

end
-- ==== Proof.KernelIdeal.Launch.lean ====
module
public import proofs.«01_k».proof.Proof.KernelIdeal.Whole
public import Idealize.ShloMosaic.Lib.Pipeline.CollectiveSegs

/-! The launch: the ghost state of the protocol is made, dealt to the devices, and the whole program runs. -/

@[expose] public section

set_option maxRecDepth 10000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## Regrouping by ring and sub-chunk -/

section Regroup

omit [FloatOps F]

theorem bigSep_fin (n : ℕ) (Φ : ℕ → sProp 𝕄) : bigSep Finset.univ (fun i : Fin n => Φ i.val) = bigSep (Finset.Ico 0 n) Φ := by
  rw [show Finset.Ico 0 n = (Finset.univ : Finset (Fin n)).map Fin.valEmbedding from by rw [Fin.map_valEmbedding_univ]; ext i; simp, bigSep_map]; rfl

/-- Slots of semaphores, by ring and sub-chunk first. -/
def semEquiv : (Fin 2 × Fin 2) × (Bool × Fin 2) ≃ Bool × Fin 2 × Fin 2 × Fin 2 :=
  ⟨fun y => (y.2.1, y.1.1, y.2.2, y.1.2), fun z => ((z.2.1, z.2.2.2), (z.1, z.2.2.1)), fun _ => rfl, fun _ => rfl⟩

/-- Every kind of semaphore: the barrier, and five for each ring and sub-chunk. -/
theorem bigSep_kd (Φ : Kd → sProp 𝕄) :
    bigSep Finset.univ Φ = iprop(Φ kBar ∗ bigSep Finset.univ fun y : Fin 2 × Fin 2 =>
      iprop((Φ (kSnd y.1 0 y.2) ∗ Φ (kSnd y.1 1 y.2) ∗ Φ (kRcv y.1 0 y.2) ∗ Φ (kRcv y.1 1 y.2)) ∗ Φ (kCrd y.1 y.2))) := by
  have h4 (Ψ : Bool × Fin 2 → sProp 𝕄) : bigSep Finset.univ Ψ = iprop(Ψ (false, 0) ∗ Ψ (false, 1) ∗ Ψ (true, 0) ∗ Ψ (true, 1)) := by
    rw [bigSep_univ_eq_bigSepL [(false, 0), (false, 1), (true, 0), (true, 1)] (by decide) (by decide)]; rfl
  have hs : (bigSep Finset.univ fun z : Bool × Fin 2 × Fin 2 × Fin 2 => Φ (some (.inl z)))
      = bigSep Finset.univ fun y : Fin 2 × Fin 2 => iprop(Φ (kSnd y.1 0 y.2) ∗ Φ (kSnd y.1 1 y.2) ∗ Φ (kRcv y.1 0 y.2) ∗ Φ (kRcv y.1 1 y.2)) := by
    rw [bigSep_univ_equiv semEquiv, bigSep_univ_prod]
    exact bigSep_congr fun y _ => h4 _
  have ho : bigSep Finset.univ Φ = iprop(Φ none ∗ bigSep Finset.univ fun a => Φ (some a)) := by
    rw [bigSep_univ_at Φ none]
    refine congrArg (fun P => iprop(Φ none ∗ P)) ?_
    rw [show (Finset.univ.erase none : Finset Kd) = Finset.univ.map ⟨some, Option.some_injective _⟩ from by decide, bigSep_map]
    rfl
  rw [ho, bigSep_univ_sum, bigSep_sep', hs]
  rfl

/-- Receive slots, by device, ring and sub-chunk first. -/
def keyEquiv : Dev nD × ((Fin 2 × Fin 2) × Fin 2) ≃ Key :=
  ⟨fun y => key y.1 y.2.1.1 y.2.2 y.2.1.2, fun z => (z.1, ((z.2.1, z.2.2.2), z.2.2.1)), fun _ => rfl, fun _ => rfl⟩

theorem bigSep_key (Φ : Key → sProp 𝕄) :
    bigSep Finset.univ Φ = bigSep Finset.univ fun c : Dev nD => bigSep Finset.univ fun y : Fin 2 × Fin 2 => iprop(Φ (key c y.1 0 y.2) ∗ Φ (key c y.1 1 y.2)) := by
  rw [bigSep_univ_equiv keyEquiv, bigSep_univ_prod]
  refine bigSep_congr fun c _ => ?_
  rw [bigSep_univ_prod]
  exact bigSep_congr fun y _ => bigSep_two _

end Regroup

/-! ## The permissions, by the device that uses them -/

/-- A device's payments: two barrier signals; for each ring and sub-chunk fifteen copies, each a payment at both ends, and
thirteen credits. -/
abbrev TokD : Type := Fin 2 ⊕ ((Fin 2 × Fin 2) × (Fin 15 ⊕ (Fin 15 ⊕ Fin 13)))

/-- The kind of semaphore paid, the round and the payment. -/
def tokK : TokD → Kd × ℕ × ℕ
  | .inl d => (kBar, 0, d.val)
  | .inr (y, .inl h) => (kSnd y.1 (par h.val) y.2, h.val / 2, 0)
  | .inr (y, .inr (.inl h)) => (kRcv y.1 (par h.val) y.2, h.val / 2, 0)
  | .inr (y, .inr (.inr j)) => (kCrd y.1 y.2, 0, j.val)
theorem tokK_injective : Function.Injective tokK := by
  have h : ∀ p : TokD × TokD, tokK p.1 = tokK p.2 → p.1 = p.2 := by decide +kernel
  exact fun a b => h (a, b)
/-- The device paid. -/
def tokE : TokD → (Dev nD ≃ Dev nD)
  | .inl 0 => ring 1
  | .inl 1 => ring 0
  | .inr (_, .inl _) => Equiv.refl _
  | .inr (y, .inr (.inl _)) => ring y.1
  | .inr (y, .inr (.inr _)) => (ring y.1).symm

/-- A device's payment: the semaphore, the round, the payment. -/
def tokOf (z : Dev nD × TokD) : GSem nD τ sig × ℕ × ℕ := (cell (tokE z.2 z.1) (tokK z.2).1, (tokK z.2).2)
theorem tokOf_injective : Function.Injective tokOf := by
  rintro ⟨c, i⟩ ⟨c', i'⟩ h
  obtain ⟨h1, h2⟩ := cell_injective (congrArg Prod.fst h)
  have h3 : i = i' := tokK_injective (Prod.ext h2 (show (tokOf (c, i)).2 = (tokOf (c', i')).2 from by rw [h]))
  subst h3
  exact congrArg (fun d => (d, i)) ((tokE i).injective h1)

/-- A device's writes: for each ring and sub-chunk fifteen copies. -/
abbrev WT : Type := (Fin 2 × Fin 2) × Fin 15
def wtK (w : WT) : (Fin 2 × Fin 2 × Fin 2) × ℕ := ((w.1.1, par w.2.val, w.1.2), w.2.val / 2)
theorem wtK_injective : Function.Injective wtK := by
  have h : ∀ p : WT × WT, wtK p.1 = wtK p.2 → p.1 = p.2 := by decide +kernel
  exact fun a b => h (a, b)
/-- The slot written, and how many writes it has had. -/
def wtOf (z : Dev nD × WT) : Key × ℕ := (key (dst z.2.1.1 z.1) z.2.1.1 (par z.2.2.val) z.2.1.2, z.2.2.val / 2)
theorem wtOf_injective : Function.Injective wtOf := by
  rintro ⟨c, w⟩ ⟨c', w'⟩ h
  have h0 : (wtOf (c, w)).1.1 = (wtOf (c', w')).1.1 := by rw [h]
  have h1 : (wtOf (c, w)).1.2 = (wtOf (c', w')).1.2 := by rw [h]
  have h2 : (wtOf (c, w)).2 = (wtOf (c', w')).2 := by rw [h]
  have h3 : w = w' := wtK_injective (Prod.ext h1 h2)
  subst h3
  exact congrArg (fun d => (d, w)) ((ring w.1.1).injective h0)

/-- The protocol's semaphores. -/
def cellP : Dev nD × Kd ↪ GSem nD τ sig := ⟨fun x => cell x.1 x.2, fun a b h => Prod.ext (cell_injective h).1 (cell_injective h).2⟩
def ringCells : Finset (GSem nD τ sig) := Finset.univ.map cellP
def ringToks : Finset (GSem nD τ sig × ℕ × ℕ) := Finset.univ.map ⟨tokOf, tokOf_injective⟩

def u₀ : UU :=
  (initOf (Pipeline.cells cfgs cellOf_inj) (Pipeline.launchToks cfgs cellOf_inj), (initOf ringCells ringToks, initSlots Finset.univ 8))

/-- The permissions to pay of device `c`. -/
def toksD (c : Dev nD) : sProp 𝕄 := bigSep Finset.univ fun i : TokD => dutyTok ER (tokOf (c, i)).1 (tokOf (c, i)).2.1 (tokOf (c, i)).2.2
/-- The permissions to write of device `c`. -/
def wtsD (c : Dev nD) : sProp 𝕄 := bigSep Finset.univ fun w : WT => writeTok ES (wtOf (c, w)).1 ((wtOf (c, w)).2 + 1)

/-- All that device `c` holds of the protocol alone. -/
def linear (c : Dev nD) : sProp 𝕄 :=
  iprop((bigSep Finset.univ fun κ : Kd => atPos ER (cell c κ) 0 ∅ 0)
    ∗ (bigSep Finset.univ fun y : Fin 2 × Fin 2 => iprop(readerAt ES (key c y.1 0 y.2) 0 ∗ readerAt ES (key c y.1 1 y.2) 0))
    ∗ toksD c ∗ wtsD c)

/-! ## The credits of the launch -/

section Cred

omit [FloatOps F]

/-- All that device `c` owes for ring `x`, sub-chunk `s`. -/
def oweA (c : Dev nD) (x s : Fin 2) : CellTallies nD τ sig ℕ := (∑ h ∈ Finset.Ico 0 15, sT c x s h) + ∑ h ∈ Finset.Ico 0 13, cT c x s h

theorem oweA_eq (c : Dev nD) (x s : Fin 2) : oweA c x s = sT c x s 0 + oweK c x s 0 := by
  unfold oweA oweK
  rw [← add_assoc (sT c x s 0)]
  refine congrArg (fun z => z + _) ?_
  rw [Ico_pop (by omega : 0 < 15), Finset.sum_insert (by simp)]
  refine congrArg (fun z => _ + z) ?_
  rw [show Finset.Ico (0 + 1) 15 = (Finset.Ico 0 14).map ⟨fun h => h + 1, fun _ _ h => Nat.succ.inj h⟩ from by decide, Finset.sum_map]; rfl

theorem O₀_eq (c : Dev nD) : O₀ c = tallyAt (cell (devL c) kBar) 1 1 + (tallyAt (cell (devR c) kBar) 1 1
    + (oweA c 0 0 + (oweA c 1 0 + (oweA c 0 1 + oweA c 1 1)))) := by
  unfold O₀ O₁ oweQ
  rw [oweA_eq, oweA_eq, oweA_eq, oweA_eq]
  ac_rfl

theorem cred_at (κ : Kd) (e : Dev nD ≃ Dev nD) (ι n : ℕ) (c : Dev nD) :
    (Pipeline.launchCred (fun d => tallyAt (cell (e d) κ) ι n) c : sProp 𝕄) ⊢ cred (tallyAt (cell c κ) ι n) :=
  Pipeline.launchCred_tallyAt (csem κ) e e.symm e.apply_symm_apply e.symm_apply_apply ι n c

theorem cred_oweA (x s : Fin 2) (c : Dev nD) :
    (Pipeline.launchCred (fun d => oweA d x s) c : sProp 𝕄) ⊢ iprop(arrivals c x s 0 ∗ crdCreds c x s 0) := by
  unfold oweA
  rw [Pipeline.launchCred_add, Pipeline.launchCred_sum, Pipeline.launchCred_sum]
  exact BI.sep_mono (bigSep_mono fun h _ => cred_at (kRcv x (par h) s) (ring x) (2 * h + 2) N c)
    (bigSep_mono fun h _ => cred_at (kCrd x s) (ring x).symm (2 * h + 3) 1 c)

/-- The claims the launch deals to device `c`. -/
theorem creds (c : Dev nD) :
    (Pipeline.launchCred O₀ c : sProp 𝕄) ⊢ iprop(cred (tallyAt (cell c kBar) 1 2) ∗ four fun x s => iprop(arrivals c x s 0 ∗ crdCreds c x s 0)) := by
  rw [show O₀ = _ from funext O₀_eq]
  rw [Pipeline.launchCred_add, Pipeline.launchCred_add, Pipeline.launchCred_add, Pipeline.launchCred_add, Pipeline.launchCred_add]
  unfold four
  iintro ⟨HL, HR, H00, H10, H01, H11⟩
  isplitl [HL HR]
  · rw [show (tallyAt (cell c kBar) 1 2 : CellTallies nD τ sig ℕ) = tallyAt (cell c kBar) 1 1 + tallyAt (cell c kBar) 1 1 from (tallyAt_add _ _ 1 1).symm]
    iapply (cred_add _ _).2
    isplitl [HL]
    · iapply (cred_at kBar (ring 1) 1 1 c); iexact HL
    iapply (cred_at kBar (ring 0) 1 1 c); iexact HR
  isplitl [H00]; · iapply (cred_oweA 0 0 c); iexact H00
  isplitl [H10]; · iapply (cred_oweA 1 0 c); iexact H10
  isplitl [H01]; · iapply (cred_oweA 0 1 c); iexact H01
  iapply (cred_oweA 1 1 c); iexact H11

/-- What a device holds of the protocol, sorted by ring and sub-chunk. -/
theorem linear_start (c : Dev nD) : iprop(linear c ∗ Pipeline.launchCred O₀ c) ⊢ (iprop(barSt c ∗ four fun x s => StartSt 0 c x s) : sProp 𝕄) := by
  have ht : toksD (F := F) c = iprop((dutyTok ER (cell (devL c) kBar) 0 0 ∗ dutyTok ER (cell (devR c) kBar) 0 1)
      ∗ bigSep Finset.univ fun y : Fin 2 × Fin 2 => iprop((bigSep (Finset.Ico 0 15) fun h => dutyTok ER (cell c (kSnd y.1 (par h) y.2)) (h / 2) 0)
        ∗ (bigSep (Finset.Ico 0 15) fun h => dutyTok ER (cell (dst y.1 c) (kRcv y.1 (par h) y.2)) (h / 2) 0) ∗ crdToks c y.1 y.2 0)) := by
    unfold toksD crdToks
    rw [bigSep_univ_sum, bigSep_two, bigSep_univ_prod]
    refine congrArg₂ (fun P Q => iprop(P ∗ Q)) rfl (bigSep_congr fun y _ => ?_)
    rw [bigSep_univ_sum, bigSep_univ_sum, ← bigSep_fin, ← bigSep_fin, ← bigSep_fin]
    rfl
  have hw : wtsD (F := F) c = bigSep Finset.univ fun y : Fin 2 × Fin 2 => bigSep (Finset.Ico 0 15) fun h => writeTok ES (key (dst y.1 c) y.1 (par h) y.2) (h / 2 + 1) := by
    unfold wtsD
    rw [bigSep_univ_prod]
    refine bigSep_congr fun y _ => ?_
    rw [← bigSep_fin]; rfl
  have hc : (four fun x s => iprop(arrivals (F := F) c x s 0 ∗ crdCreds c x s 0)) = bigSep Finset.univ fun y : Fin 2 × Fin 2 => iprop(arrivals c y.1 y.2 0 ∗ crdCreds c y.1 y.2 0) :=
    (bigSep_four fun y => iprop(arrivals c y.1 y.2 0 ∗ crdCreds c y.1 y.2 0)).symm
  have hS : (four fun x s => StartSt (F := F) 0 c x s) = bigSep Finset.univ fun y : Fin 2 × Fin 2 => StartSt 0 c y.1 y.2 :=
    (bigSep_four fun y => StartSt 0 c y.1 y.2).symm
  unfold linear barSt
  rw [ht, hw, hS, bigSep_kd]
  iintro ⟨⟨⟨Hb, Hat⟩, Hr, ⟨⟨Ht0, Ht1⟩, Ht⟩, Hw⟩, Hcr⟩
  ihave Hcr := (creds (F := F) c) $$ Hcr
  rw [hc]
  icases Hcr with ⟨Hcb, Hcr⟩
  isplitl [Hb Ht0 Ht1 Hcb]
  · isplitl [Hb]; · iexact Hb
    isplitl [Ht0]; · iexact Ht0
    isplitl [Ht1] <;> iassumption
  have hj : iprop((bigSep Finset.univ fun y : Fin 2 × Fin 2 => iprop((atPos ER (cell c (kSnd y.1 0 y.2)) 0 ∅ 0 ∗ atPos ER (cell c (kSnd y.1 1 y.2)) 0 ∅ 0
          ∗ atPos ER (cell c (kRcv y.1 0 y.2)) 0 ∅ 0 ∗ atPos ER (cell c (kRcv y.1 1 y.2)) 0 ∅ 0) ∗ atPos ER (cell c (kCrd y.1 y.2)) 0 ∅ 0))
      ∗ (bigSep Finset.univ fun y : Fin 2 × Fin 2 => iprop(readerAt ES (key c y.1 0 y.2) 0 ∗ readerAt ES (key c y.1 1 y.2) 0))
      ∗ (bigSep Finset.univ fun y : Fin 2 × Fin 2 => iprop((bigSep (Finset.Ico 0 15) fun h => dutyTok ER (cell c (kSnd y.1 (par h) y.2)) (h / 2) 0)
        ∗ (bigSep (Finset.Ico 0 15) fun h => dutyTok ER (cell (dst y.1 c) (kRcv y.1 (par h) y.2)) (h / 2) 0) ∗ crdToks c y.1 y.2 0))
      ∗ (bigSep Finset.univ fun y : Fin 2 × Fin 2 => bigSep (Finset.Ico 0 15) fun h => writeTok ES (key (dst y.1 c) y.1 (par h) y.2) (h / 2 + 1))
      ∗ (bigSep Finset.univ fun y : Fin 2 × Fin 2 => iprop(arrivals c y.1 y.2 0 ∗ crdCreds c y.1 y.2 0)))
      ⊢ (bigSep Finset.univ fun y : Fin 2 × Fin 2 => StartSt 0 c y.1 y.2 : sProp 𝕄) := by
    rw [← bigSep_sep', ← bigSep_sep', ← bigSep_sep', ← bigSep_sep']
    refine bigSep_mono fun y _ => ?_
    unfold StartSt copyToks copyTok
    rw [bigSep_sep', bigSep_sep']
    show (_ : sProp 𝕄) ⊢ _
    iintro ⟨⟨⟨S0, S1, R0, R1⟩, C⟩, ⟨D0, D1⟩, ⟨T1, T2, T3⟩, Tw, A, B⟩
    isplitl [S0 S1]; · isplitl [S0] <;> iassumption
    isplitl [R0 R1]; · isplitl [R0] <;> iassumption
    isplitl [D0 D1]; · isplitl [D0] <;> iassumption
    isplitl [C]; · iexact C
    isplitl [A]; · iexact A
    isplitl [T1 T2 Tw]
    · isplitl [T1]; · iexact T1
      isplitl [T2] <;> iassumption
    isplitl [T3] <;> iassumption
  iapply hj
  isplitl [Hat]; · iexact Hat
  isplitl [Hr]; · iexact Hr
  isplitl [Ht]; · iexact Ht
  isplitl [Hw] <;> iassumption

end Cred

/-! ## The global step -/

section Run

variable (m : (ℓ : Loc nD τ sig) → Buf (Elt F) ℓ) (ρ : Dev nD → PrngReg)

/-- The kernel's own semaphores. -/
abbrev osem : (Bool × Fin 2 × Fin 2 × Fin 2) ⊕ (Fin 2 × Fin 2) → SemLoc sig := fun k => csem (some k)

theorem ownSemFacts : Pipeline.OwnSemFacts cfg0.spec osem := by decide +kernel

theorem share_eq (c : Dev nD) (w : Fin cfg0.W) : (dats m ρ 0 c).share w = fullShare := by unfold Pipeline.Dat.share; split <;> rfl

/-- The slots' part of the launch state, kept by one device until it is used. -/
def slotPart (c : Dev nD) : sProp 𝕄 := if c = 0 then BI.own (ES (initSlots Finset.univ 8)) else iprop(emp)

/-- What the launch state deals device `c`. -/
def G (c : Dev nD) : sProp 𝕄 :=
  iprop((bigSep Finset.univ fun κ : Kd => roundState ER (Rd (X₀ m ρ) (W₀ m ρ)) (cell c κ) 0)
    ∗ (bigSep Finset.univ fun κ : Kd => reached ER (cell c κ) 0) ∗ (bigSep Finset.univ fun κ : Kd => atPos ER (cell c κ) 0 ∅ 0)
    ∗ toksD c ∗ slotPart c)

/-- The records every device reads. -/
def records (K : Dev nD × Kd → ℕ) (J : Key → ℕ) : sProp 𝕄 :=
  iprop((bigSep Finset.univ fun x : Dev nD × Kd => cellInv ER (Rd (X₀ m ρ) (W₀ m ρ)) (K x) (cell x.1 x.2))
    ∗ (bigSep Finset.univ fun y : Key => slotInv ES (J y) y (anySlot y.1 (rcvM y.2.1) y.2.2.1 y.2.2.2))
    ∗ bigSep Finset.univ fun x : Dev nD × Kd => reached ER (cell x.1 x.2) 0)

instance records_persistent (K : Dev nD × Kd → ℕ) (J : Key → ℕ) : BI.Persistent (records m ρ K J) := by
  unfold records
  have := fun x : Dev nD × Kd => (inferInstance : BI.Persistent (cellInv ER (Rd (X₀ m ρ) (W₀ m ρ)) (K x) (cell x.1 x.2)))
  infer_instance

/-- What the global step makes of it. -/
def G' (c : Dev nD) : sProp 𝕄 := iprop(∃ K J, records m ρ K J ∗ linear c)

theorem slotPart_intro : BI.own (ES (initSlots Finset.univ 8)) ⊢ (bigSep Finset.univ fun c : Dev nD => slotPart c : sProp 𝕄) := by
  rw [bigSep_univ_at _ (0 : Dev nD), show slotPart (F := F) 0 = BI.own (ES (initSlots Finset.univ 8)) from if_pos rfl,
    show (bigSep (Finset.univ.erase 0) fun c : Dev nD => slotPart (F := F) c) = iprop(emp) from
      (bigSep_congr (Ψ := fun _ => BI.emp) fun c hc => show slotPart c = BI.emp from if_neg (Finset.ne_of_mem_erase hc)).trans (BI.bigSep_emp_const _)]
  iintro H
  isplitl [H]; · iexact H
  iempintro

theorem fund_ring : BI.own (ER (initOf ringCells ringToks)) ∗ BI.own (ES (initSlots Finset.univ 8)) ⊢ (|==> bigSep Finset.univ (G m ρ) : sProp 𝕄) := by
  have hX (Φ : GSem nD τ sig → sProp 𝕄) : bigSep ringCells Φ = bigSep Finset.univ fun c : Dev nD => bigSep Finset.univ fun κ : Kd => Φ (cell c κ) := by
    unfold ringCells; rw [bigSep_map, bigSep_univ_prod]; rfl
  have hT : bigSep ringToks (fun x => (dutyTok ER x.1 x.2.1 x.2.2 : sProp 𝕄)) = bigSep Finset.univ fun c : Dev nD => toksD c := by
    unfold ringToks; rw [bigSep_map, bigSep_univ_prod]; rfl
  iintro ⟨HX, HS⟩
  imod (Rounds.fund ER (Rd (X₀ m ρ) (W₀ m ρ)) ringCells ringToks) $$ HX with ⟨Hst, Hr, Hat, Htok⟩
  imodintro
  ihave Hst' := (Entails.of_eq (hX fun g => roundState ER (Rd (X₀ m ρ) (W₀ m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (slotPart_intro (F := F)) $$ HS
  unfold G; simp only [bigSep_sep']
  isplitl [Hst']; · iexact Hst'
  isplitl [Hr']; · iexact Hr'
  isplitl [Hat']; · iexact Hat'
  isplitl [Htok']; · iexact Htok'
  iexact HS'

omit [FloatOps F] in
/-- The barrier is the one semaphore that is not the kernel's own. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl

omit [FloatOps F] in
theorem sems0_eq (c : Dev nD) :
    (bigSep Finset.univ fun κ : Kd => semVal (cell c κ) 0 : sProp 𝕄)
      = iprop(unscopedSems0 c ∗ Pipeline.ownSems0 (Ix := ℕ) (Name := ℕ) (U := UU) (Lvl := ℕ) (Val := Elt F) (τ := τ) osem c) := by
  rw [bigSep_univ_at _ (none : Kd), unscopedSems0_eq]
  refine congrArg (fun P => iprop(semVal (cell c kBar) 0 ∗ P)) ?_
  rw [show (Finset.univ.erase none : Finset Kd) = Finset.univ.map ⟨some, Option.some_injective _⟩ from by decide, bigSep_map]
  rfl

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun κ : Kd => iprop(∃ ι : ℕ, cellInv ER (Rd (X₀ m ρ) (W₀ m ρ)) ι (cell c κ)))
          ∗ (bigSep Finset.univ fun κ : Kd => reached ER (cell c κ) 0) ∗ (bigSep Finset.univ fun κ : Kd => atPos ER (cell c κ) 0 ∅ 0)
          ∗ toksD c ∗ slotPart c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun κ : Kd => semVal (cell c κ) 0) ∗ bigSep Finset.univ fun κ : Kd => roundState ER (Rd (X₀ m ρ) (W₀ m ρ)) (cell c κ) 0)
      ⊢ (|={Set.univ}=> bigSep Finset.univ fun κ : Kd => iprop(∃ ι : ℕ, cellInv ER (Rd (X₀ m ρ) (W₀ m ρ)) ι (cell c κ)) : sProp 𝕄) from by
        rw [← bigSep_sep']
        exact (bigSep_mono fun κ _ => (Rounds.body_intro ER (Rd (X₀ m ρ) (W₀ m ρ)) (cell c κ)).trans inv_alloc).trans (bigSep_fupd _ _)) $$ [Hv Hst] with Hinv
  · isplitl [Hv] <;> iassumption
  imodintro
  isplitl [Hinv]; · iexact Hinv
  iexact Hrest

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The permissions to write, dealt to the devices that write. -/
theorem wts_deal : (bigSep (Finset.univ ×ˢ Finset.range 8) fun x : Key × ℕ => (writeTok ES x.1 (x.2 + 1) : sProp 𝕄)) ⊢ bigSep Finset.univ fun c : Dev nD => wtsD c := by
  have hsub : (Finset.univ.map ⟨wtOf, wtOf_injective⟩ : Finset (Key × ℕ)) ⊆ Finset.univ ×ˢ Finset.range 8 := by
    intro x hx
    obtain ⟨⟨c, w⟩, -, rfl⟩ := Finset.mem_map.mp hx
    refine Finset.mem_product.mpr ⟨Finset.mem_univ _, Finset.mem_range.mpr ?_⟩
    show w.2.val / 2 < 8
    have := w.2.isLt; omega
  refine (show _ ⊢ _ from bigSep_subset hsub).trans (Entails.of_eq ?_)
  rw [bigSep_map, bigSep_univ_prod]; rfl

theorem regroup :
    (bigSep Finset.univ fun c : Dev nD => iprop((bigSep Finset.univ fun κ : Kd => iprop(∃ ι : ℕ, cellInv ER (Rd (X₀ m ρ) (W₀ m ρ)) ι (cell c κ)))
          ∗ (bigSep Finset.univ fun κ : Kd => reached ER (cell c κ) 0) ∗ (bigSep Finset.univ fun κ : Kd => atPos ER (cell c κ) 0 ∅ 0)
          ∗ toksD c ∗ slotPart c) : sProp 𝕄)
      ⊢ |={Set.univ}=> bigSep Finset.univ (G' m ρ) := by
  rw [bigSep_sep', bigSep_sep', bigSep_sep', bigSep_sep',
    ← bigSep_univ_prod (fun x : Dev nD × Kd => iprop(∃ ι : ℕ, cellInv ER (Rd (X₀ m ρ) (W₀ m ρ)) ι (cell x.1 x.2))),
    ← bigSep_univ_prod (fun x : Dev nD × Kd => (reached ER (cell x.1 x.2) 0 : sProp 𝕄))]
  iintro ⟨HI, #HR, Hat, Htok, HS⟩
  ihave HK := (BI.bigSep_exists_pi Finset.univ (fun (x : Dev nD × Kd) (ι : ℕ) => (cellInv ER (Rd (X₀ m ρ) (W₀ m ρ)) ι (cell x.1 x.2) : sProp 𝕄))) $$ HI
  icases HK with ⟨%K, #HI⟩
  have hS : (bigSep Finset.univ fun c : Dev nD => (slotPart c : sProp 𝕄)) ⊢ BI.own (ES (initSlots Finset.univ 8)) := by
    refine (show _ ⊢ slotPart (F := F) 0 from bigSep_elim (Finset.mem_univ 0)).trans (Entails.of_eq (if_pos rfl))
  ihave HS := hS $$ HS
  imod (slots_init ES Finset.univ 8 (fun y : Key => anySlot y.1 (rcvM y.2.1) y.2.2.1 y.2.2.2)) $$ HS with ⟨%J, -, #HJ, Hrd, Hw⟩
  ihave Hw := (wts_deal (F := F)) $$ Hw
  ihave Hrd := (Entails.of_eq (bigSep_key (F := F) fun k => readerAt ES k 0)) $$ Hrd
  imodintro
  have hG (c : Dev nD) : iprop(records m ρ K J ∗ linear c) ⊢ G' m ρ c := by
    unfold G'
    iintro H
    iexists K; iexists J; iexact H
  iapply (bigSep_with_persistent (R := records m ρ K J) fun c _ => hG c)
  isplitr
  · unfold records
    isplitr; · iexact HI
    isplitr; · iexact HJ
    iexact HR
  have hl : (bigSep Finset.univ fun c : Dev nD => linear (F := F) c) = iprop((bigSep Finset.univ fun c : Dev nD => bigSep Finset.univ fun κ : Kd => atPos ER (cell c κ) 0 ∅ 0)
      ∗ (bigSep Finset.univ fun c : Dev nD => bigSep Finset.univ fun y : Fin 2 × Fin 2 => iprop(readerAt ES (key c y.1 0 y.2) 0 ∗ readerAt ES (key c y.1 1 y.2) 0))
      ∗ (bigSep Finset.univ fun c : Dev nD => toksD c) ∗ bigSep Finset.univ fun c : Dev nD => wtsD c) := by
    unfold linear; rw [bigSep_sep', bigSep_sep', bigSep_sep']
  iapply (Entails.of_eq hl.symm)
  isplitl [Hat]; · iexact Hat
  isplitl [Hrd]; · iexact Hrd
  isplitl [Htok] <;> iassumption

/-- The protocol is set up for all devices at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans ((BI.fupd_mono (regroup m ρ)).trans BI.fupd_trans)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' records start Inv
  iintro ⟨-, #Hlev, Hcr, -, ⟨%K, %J, ⟨#HI, #HJ, #HR⟩, Hl⟩⟩
  imodintro
  isplitl
  · iexists K; iexists J
    isplitr
    · isplitr; · iexact HI
      isplitr; · iexact HJ
      isplitr; · iexact Hlev
      iexact HR
    iapply (linear_start (F := F) c)
    isplitl [Hl] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iapply (slots_of_scr (F := F) c)
  unfold scrAll; iexact Hr

theorem phi1_exit (c : Dev nD) :
    (dats m ρ 0 c).Φ (Fin.last cfg0.N) ⊢ iprop(unscopedSems0 c ∗ Pipeline.ownSems0 osem c ∗ Pipeline.scopedRest cfg0.spec c) := by
  have hz : iprop(semVal (cell c kBar) 0 ∗ four fun x s => semsZ c x s) ⊢ (iprop(unscopedSems0 c ∗ Pipeline.ownSems0 osem c) : sProp 𝕄) := by
    rw [← sems0_eq, bigSep_kd, ← show _ = four fun x s => semsZ (F := F) c x s from bigSep_four fun y => semsZ c y.1 y.2]
    refine BI.sep_mono (BI.Entails.refl _) (bigSep_mono fun y _ => ?_)
    unfold semsZ
    show (_ : sProp 𝕄) ⊢ _
    iintro ⟨H0, H1, H2, H3, H4⟩
    isplitr [H4]; swap; · iexact H4
    isplitl [H0]; · iexact H0
    isplitl [H1]; · iexact H1
    isplitl [H2] <;> iassumption
  rw [show (dats m ρ 0 c).Φ (Fin.last cfg0.N) = Φ₁ c from rfl, scopedRest0_eq]
  unfold Φ₁
  iintro ⟨Hb, HZ, HL⟩
  ihave H := hz $$ [Hb HZ]
  · isplitl [Hb] <;> iassumption
  icases H with ⟨Hu, Ho⟩
  isplitl [Hu]; · iexact Hu
  isplitl [Ho]; · iexact Ho
  ihave HL := (scr_of_slots (F := F) c) $$ HL
  unfold scrAll; iexact HL

theorem waits (c : Dev nD) : (levAts L lv : sProp 𝕄) ⊢ Pipeline.cellsWaits cfgs (dats m ρ) 0 0 c :=
  Pipeline.cellsWaits_intro cfgs (dats m ρ) 0 0 c fun w s t => by
    refine mayWait c _ 0 (by omega) ?_
    rcases t with ⟨_ | _, ht⟩
    · exact Above_O₀ c
    · exact Above.zero

/-! ## The run -/

/-- What an array of device `c` holds at the end. -/
def finalA (c : Dev nD) (w : Fin cfg0.W) : Buf (Elt F) ((cfg0.win w).arr.view.loc (c : Thread nD τ)) := (dats m ρ 0 c).arrAt w cfg0.N

/-- Every array of every device ends as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with the counters at zero the program ends on every device, with the result arrays as computed, the
arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb _ _ _) $$ HX
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument's array is unchanged. -/
theorem finalA_x (c : Dev nD) : finalA m ρ c (0 : Fin 3) = (s₀ m ρ).mem (win0_0.arr.view.loc (c : Thread nD τ)) :=
  (dats (F := F) m ρ 0 c).arrAt_in (0 : Fin 3) rfl _

/-- The second argument's array is unchanged. -/
theorem finalA_w (c : Dev nD) : finalA m ρ c (1 : Fin 3) = (s₀ m ρ).mem (win0_1.arr.view.loc (c : Thread nD τ)) :=
  (dats (F := F) m ρ 0 c).arrAt_in (1 : Fin 3) rfl _

end Run

end Cert.KernelIdeal.Ring

end
-- ==== Proof.KernelIdeal.Value.lean ====
module
public import proofs.«01_k».proof.Proof.KernelIdeal.Launch
public import Idealize.ShloMosaic.PureOps.Ideal
public import Idealize.ShloMosaic.PureOps.Ideal.Laws
public import Idealize.ShloMosaic.Lib.MatmulPlain
public import Idealize.ShloMosaic.Lib.Layout
public import Idealize.ShloMosaic.Lib.ValueIdxCore
public import Idealize.ShloMosaic.Lib.Pipeline.Value
public import Mathlib.Logic.Equiv.Fin.Basic

/-! The values the kernel computes, in exact arithmetic: the partial products that travel round a ring add up, in the
order in which the devices lie on it, to a block of the whole product. -/

@[expose] public section

set_option maxRecDepth 10000

noncomputable section

namespace Cert.KernelIdeal.Ring

open Idealize.ShloMosaic Idealize.ShloMosaic.TcCoe Idealize.ShloMosaic.ValueIdx
open Cert.KernelIdeal Cert.KernelIdeal.Gen
open scoped BigOperators

/-! ## Where the ring's blocks of rows lie -/

/-- The block of rows that ring `x` multiplies on device `d` at step `t`. -/
def chunk (x : Fin 2) (d : Dev nD) (t : Fin 16) : Dev nD :=
  match x with
  | 0 => ⟨(d.val + 15 - t.val) % 16, Nat.mod_lt _ (by decide)⟩
  | 1 => ⟨(d.val + 1 + t.val) % 16, Nat.mod_lt _ (by decide)⟩

theorem rowOff_eq (x : Fin 2) (d : Dev nD) (t : Fin 16) : rowOff x d t 0 = (chunk x d t).val * 128 ∧ rowOff x d t 1 = 0 := by
  have h : ∀ p : Fin 2 × Dev nD × Fin 16, rowOff p.1 p.2.1 p.2.2 0 = (chunk p.1 p.2.1 p.2.2).val * 128 ∧ rowOff p.1 p.2.1 p.2.2 1 = 0 := by
    decide +kernel
  exact h (x, d, t)
/-- A device multiplies the block of rows that the sum it has just received is of. -/
theorem chunk_src (x : Fin 2) (d : Dev nD) (t : ℕ) (ht : t < 15) : chunk x (src x d) (row t) = chunk x d (row (t + 1)) := by
  have h : ∀ p : Fin 2 × Dev nD × Fin 15, chunk p.1 (src p.1 p.2.1) (row p.2.2.val) = chunk p.1 p.2.1 (row (p.2.2.val + 1)) := by
    decide +kernel
  exact h (x, d, ⟨t, ht⟩)
/-- The last block of rows is the device's own. -/
theorem chunk_last (x : Fin 2) (d : Dev nD) : chunk x d (row 15) = d := by
  have h : ∀ p : Fin 2 × Dev nD, chunk p.1 p.2 (row 15) = p.2 := by decide +kernel
  exact h (x, d)

/-- The devices met going back round ring `x` from `d`. -/
def back (x : Fin 2) (d : Dev nD) (u : Fin 16) : Dev nD := (src x)^[u.val] d
/-- The device `u` places behind `d`, by its number. -/
theorem iterate_src_val (x : Fin 2) (d : Dev nD) (u : ℕ) : ((src x)^[u] d).val = (d.val + (15 - 14 * x.val) * u) % 16 := by
  have h : ∀ p : Fin 2 × Dev nD, (src p.1 p.2).val = (p.2.val + (15 - 14 * p.1.val)) % 16 := by decide +kernel
  induction u with
  | zero => exact (Nat.mod_eq_of_lt d.isLt).symm
  | succ u ih =>
    rw [Function.iterate_succ_apply', h (x, _), ih]
    show ((d.val + (15 - 14 * x.val) * u) % 16 + (15 - 14 * x.val)) % 16 = _
    rw [Nat.mod_add_mod, Nat.mul_succ, Nat.add_assoc]
/-- They are all the devices, each once. -/
theorem back_bijective (x : Fin 2) (d : Dev nD) : Function.Bijective (back x d) := by
  refine Finite.injective_iff_bijective.mp fun a b h => Fin.ext ?_
  have hv : ((src x)^[a.val] d).val = ((src x)^[b.val] d).val := congrArg Fin.val h
  rw [iterate_src_val, iterate_src_val] at hv
  have ha := a.isLt
  have hb := b.isLt
  have hx : x.val = 0 ∨ x.val = 1 := by omega
  rcases hx with hx | hx <;> rw [hx] at hv <;> omega

/-! ## The whole product, by blocks -/

/-- Position `r` of block `d` of sixteen. -/
def at16 (d : Fin 16) (r : Fin 128) : Fin 2048 := ⟨d.val * 128 + r.val, by omega⟩
/-- Column `j` of ring `x`'s sub-chunk `s`. -/
def colAt (x s : Fin 2) (j : Fin 512) : Fin 2048 := ⟨1024 * x.val + 512 * s.val + j.val, by omega⟩

theorem tiles_x : Layout.Tiles ⟨2, ![2048, 128]⟩ ⟨2, ![2048, 2048]⟩ 1 16 := by decide
theorem tiles_w : Layout.Tiles ⟨2, ![128, 2048]⟩ ⟨2, ![2048, 2048]⟩ 0 16 := by decide

section Product

variable (A B : (⟨2, ![2048, 2048]⟩ : Shape).Idx → EReal)

/-- The part of an entry of the product that device `d` holds the factors of. -/
def term (d q : Dev nD) (r : Fin 128) (j : Fin 2048) : EReal := ∑ k : Fin 128, A (ix2 (at16 q r) (at16 d k)) * B (ix2 (at16 d k) j)
/-- An entry of the product. -/
def whole (i j : Fin 2048) : EReal := ∑ k : Fin 2048, A (ix2 i k) * B (ix2 k j)

/-- The devices' parts add up to the entry. -/
theorem sum_term (q : Dev nD) (r : Fin 128) (j : Fin 2048) : ∑ d : Dev nD, term A B d q r j = whole A B (at16 q r) j := by
  unfold term whole
  rw [← (finProdFinEquiv (m := 16) (n := 128)).sum_comp (fun k : Fin 2048 => A (ix2 (at16 q r) k) * B (ix2 k j)), Fintype.sum_prod_type]
  refine Finset.sum_congr rfl fun d _ => Finset.sum_congr rfl fun k _ => ?_
  have h : finProdFinEquiv (m := 16) (n := 128) (d, k) = at16 d k := Fin.ext (by
    show k.val + 128 * d.val = d.val * 128 + k.val; omega)
  rw [h]

/-- So do they in the order of a ring. -/
theorem sum_back (x : Fin 2) (c q : Dev nD) (r : Fin 128) (j : Fin 2048) :
    ∑ u ∈ Finset.range 16, term A B ((src x)^[u] c) q r j = whole A B (at16 q r) j := by
  rw [Finset.sum_range, ← sum_term]
  exact (back_bijective x c).sum_comp fun d => term A B d q r j

/-! ## What travels -/

variable (X : Dev nD → (cc0_stg0_0 : Ref sig .tc).ty.Contents (Elt Ideal)) (W : Dev nD → (cc0_stg1_0 : Ref sig .tc).ty.Contents (Elt Ideal))
variable (hX : ∀ d, X d = Layout.block ⟨2, ![2048, 128]⟩ ⟨2, ![2048, 2048]⟩ 1 16 d A tiles_x)
variable (hW : ∀ d, W d = Layout.block ⟨2, ![128, 2048]⟩ ⟨2, ![2048, 2048]⟩ 0 16 d B tiles_w)

include hX in
theorem x_apply (x : Fin 2) (d : Dev nD) (t : Fin 16) (r k : Fin 128) :
    xM.view.readAt (Elt Ideal) (rowR x d t).toLoadRect (X d) (ix2 r k) = A (ix2 (at16 (chunk x d t) r) (at16 d k)) := by
  show X d ((rowR x d t).emb (ix2 r k)) = _
  rw [hX]
  show A _ = A _
  obtain ⟨h0, h1⟩ := rowOff_eq x d t
  congr 1
  refine Shape.idx_ext₂ ?_ ?_
  · show rowOff x d t 0 + 1 * r.val = (chunk x d t).val * 128 + r.val
    rw [h0]; omega
  · show d.val * 128 + (rowOff x d t 1 + 1 * k.val) = d.val * 128 + k.val
    rw [h1]; omega

include hW in
theorem w_apply (x s : Fin 2) (d : Dev nD) (k : Fin 128) (j : Fin 512) :
    wM.view.readAt (Elt Ideal) (colR x s).toLoadRect (W d) (ix2 k j) = B (ix2 (at16 d k) (colAt x s j)) := by
  show W d ((colR x s).emb (ix2 k j)) = _
  rw [hW]
  show B _ = B _
  congr 1
  refine Shape.idx_ext₂ ?_ ?_
  · show d.val * 128 + (0 + 1 * k.val) = d.val * 128 + k.val
    omega
  · show 1024 * x.val + 512 * s.val + 1 * j.val = 1024 * x.val + 512 * s.val + j.val
    omega

include hX hW in
/-- A device's product at step `t` is its part of the block of rows of that step. -/
theorem pv_apply (x s : Fin 2) (c : Dev nD) (t : ℕ) (r : Fin 128) (j : Fin 512) :
    pv X W c x s t (ix2 r j) = term A B c (chunk x c (row t)) r (colAt x s j) := by
  unfold pv prod
  rw [shapeCast_self, shapeCast_self]
  refine (Ideal.matmul_plain_apply (M := 128) (K := 128) (N := 512) none _ _ _ r j).trans ?_
  rw [show constant (F := Ideal) S128x512 .f32 0x00000000#32 (ix2 r j) = 0 from Ideal.ofBits_zero_f32, zero_add]
  unfold term
  exact Finset.sum_congr rfl fun k _ => by rw [x_apply A X hX, w_apply B W hW]

theorem acc_apply (v p : FVec Ideal S128x512 .f32) (i : S128x512.Idx) : acc (toSlot v) p i = v i + p i := by
  unfold acc toSlot
  rw [shapeCast_shapeCast]; rfl

include hX hW in
/-- What a device sends at hop `t` is the sum of the parts of the devices behind it. -/
theorem sendV_apply (x s : Fin 2) (t : ℕ) (ht : t < 16) (c : Dev nD) (r : Fin 128) (j : Fin 512) :
    sendV X W x s t c (ix2 r j) = ∑ u ∈ Finset.range (t + 1), term A B ((src x)^[u] c) (chunk x c (row t)) r (colAt x s j) := by
  induction t generalizing c with
  | zero =>
    rw [Finset.sum_range_one]
    exact pv_apply A B X W hX hW x s c 0 r j
  | succ t ih =>
    rw [Finset.sum_range_succ']
    show acc (toSlot (sendV X W x s t (src x c))) (pv X W c x s (t + 1)) (ix2 r j) = _
    rw [acc_apply, ih (by omega), pv_apply A B X W hX hW, chunk_src x c t (by omega)]
    rfl

/-- The value times its logistic function. -/
def silu (y : EReal) : EReal := y * Ideal.logistic y

include hX hW in
/-- What a device stores at the end is the function of its rows of the whole product. -/
theorem outV_apply (x s : Fin 2) (c : Dev nD) (r : Fin 128) (j : Fin 512) :
    outV X W c x s (ix2 r j) = silu (whole A B (at16 c r) (colAt x s j)) := by
  have h : sendV X W x s 15 c (ix2 r j) = whole A B (at16 c r) (colAt x s j) := by
    rw [sendV_apply A B X W hX hW x s 15 (by omega) c r j, chunk_last, sum_back]
  show silu (sendV X W x s 15 c (ix2 r j)) = _
  rw [h]

include hX hW in
/-- One of the four stores puts the function of the whole product in its columns and leaves the others. -/
theorem putCol_apply (x s : Fin 2) (c : Dev nD) (f : (cc0_stg2_0 : Ref sig .tc).ty.Contents (Elt Ideal)) (i : S128x2048.Idx) :
    putCol X W c x s f i = if 1024 * x.val + 512 * s.val ≤ (i 1).val ∧ (i 1).val < 1024 * x.val + 512 * s.val + 512
      then silu (whole A B (at16 c (i 0)) (i 1)) else f i := by
  have hset : i ∈ (oM.access (colR x s)).setOn Finset.univ ↔ (1024 * x.val + 512 * s.val ≤ (i 1).val ∧ (i 1).val < 1024 * x.val + 512 * s.val + 512) := by
    rw [View.setOn_univ]
    rw [show ((oM.access (colR x s)).set) = (colR x s).set from View.set_slice_whole cc0_stg2_0 (colR x s), Rect.mem_set_unit]
    constructor
    · intro h; exact h 1
    · intro hh a
      fin_cases a
      · exact ⟨Nat.zero_le _, (show (i 0).val < 0 + 128 from by rw [Nat.zero_add]; exact (i 0).isLt)⟩
      · exact hh
  unfold putCol
  by_cases h : 1024 * x.val + 512 * s.val ≤ (i 1).val ∧ (i 1).val < 1024 * x.val + 512 * s.val + 512
  · rw [if_pos h]
    have hi : i = (oM.access (colR x s)).emb (ix2 (i 0) (⟨(i 1).val - (1024 * x.val + 512 * s.val), by omega⟩ : Fin 512)) := by
      refine Shape.idx_ext₂ ?_ ?_
      · show (i 0).val = 0 + 1 * (i 0).val
        omega
      · show (i 1).val = 1024 * x.val + 512 * s.val + 1 * ((i 1).val - (1024 * x.val + 512 * s.val))
        omega
    have hc : colAt x s (⟨(i 1).val - (1024 * x.val + 512 * s.val), by omega⟩ : Fin 512) = i 1 := Fin.ext (by
      show 1024 * x.val + 512 * s.val + ((i 1).val - (1024 * x.val + 512 * s.val)) = (i 1).val; omega)
    have hw := View.read_write_univ (Val := Elt Ideal) (v := oM.access (colR x s)) f (outV X W c x s)
    have hw' := congrFun hw (ix2 (i 0) (⟨(i 1).val - (1024 * x.val + 512 * s.val), by omega⟩ : Fin 512))
    have ho := outV_apply A B X W hX hW x s c (i 0) (⟨(i 1).val - (1024 * x.val + 512 * s.val), by omega⟩ : Fin 512)
    rw [hc] at ho
    have hr : ∀ (g : (cc0_stg2_0 : Ref sig .tc).ty.Contents (Elt Ideal)) (k : S128x512.Idx),
        (oM.access (colR x s)).read (Elt Ideal) g k = g ((oM.access (colR x s)).emb k) := fun _ _ => rfl
    have he := (hr _ _).symm.trans (hw'.trans ho)
    rw [← hi] at he
    exact he
  · rw [if_neg h]
    exact View.write_of_not_mem _ _ _ (fun hm => h (hset.mp hm))

include hX hW in
/-- The result block of device `c` is the function of its rows of the whole product. -/
theorem outBlk_apply (c : Dev nD) (i : S128x2048.Idx) : outBlk X W c i = silu (whole A B (at16 c (i 0)) (i 1)) := by
  have hi : (i 1).val < 2048 := (i 1).isLt
  unfold outBlk putAll
  rw [putCol_apply A B X W hX hW, putCol_apply A B X W hX hW, putCol_apply A B X W hX hW, putCol_apply A B X W hX hW]
  simp only [Fin.val_zero, Fin.val_one]
  split_ifs <;> first | rfl | omega

end Product

/-! ## The arrays at the end -/

section Final

variable (m : (ℓ : Loc nD τ sig) → Buf (Elt Ideal) ℓ) (ρ : Dev nD → PrngReg)

theorem X₀_eq (c : Dev nD) : X₀ m ρ c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

theorem W₀_eq (c : Dev nD) : W₀ m ρ c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

theorem finalA_o (c : Dev nD) : finalA m ρ c (2 : Fin 3) = outBlk (X₀ m ρ) (W₀ m ρ) c := by
  have h : (win0_2.blk (0 : Fin 1)).view.read (Elt Ideal) (finalA m ρ c (2 : Fin 3)) = outBlk (X₀ m ρ) (W₀ m ρ) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt Ideal) main_v1 hz (fun a => by fin_cases a <;> decide) _).symm.trans h

/-- Where the devices hold the parts of `A` and of `B`, device `c` ends with its rows of the function of the product. -/
theorem result_apply (A B : (⟨2, ![2048, 2048]⟩ : Shape).Idx → EReal)
    (hA : ∀ c : Dev nD, m ((c.tc : Thread nD τ).loc main_arg0) = Layout.block ⟨2, ![2048, 128]⟩ ⟨2, ![2048, 2048]⟩ 1 16 c A tiles_x)
    (hB : ∀ c : Dev nD, m ((c.tc : Thread nD τ).loc main_arg1) = Layout.block ⟨2, ![128, 2048]⟩ ⟨2, ![2048, 2048]⟩ 0 16 c B tiles_w)
    (c : Dev nD) (i : S128x2048.Idx) : finalA m ρ c (2 : Fin 3) i = silu (whole A B (at16 c (i 0)) (i 1)) := by
  rw [finalA_o]
  exact outBlk_apply A B _ _ (fun d => (X₀_eq m ρ d).trans (hA d)) (fun d => (W₀_eq m ρ d).trans (hB d)) c i

end Final

end Cert.KernelIdeal.Ring

end
-- ==== Proof.Values.lean ====
module

public import proofs.«01_k».proof.Defs
public import proofs.«01_k».proof.Proof.Gen.ReferenceIdeal
public import proofs.«01_k».proof.Proof.Gen.SiluIdeal
public import proofs.«01_k».proof.Proof.KernelIdeal.Value
public import Idealize.ShloMosaic.Lib.StackMember

/-! The references' composed terms, read entry by entry in exact arithmetic, and their agreement with what the kernel
stores. -/

@[expose] public section

noncomputable section

namespace Cert.Proof

open Idealize.ShloMosaic Idealize.ShloMosaic.ValueIdx Cert.KernelIdeal.Ring

/-! ## One value -/

/-- The constant 1. -/
theorem one_bits : Ideal.ofBits .f32 0x3F800000#32 = (1 : EReal) := by
  simp [Ideal.ofBits, Ideal.ieee, -EReal.coe_mul]; norm_num

/-- An exponential is not negative. -/
theorem exp_nonneg (x : EReal) : 0 ≤ Ideal.exp x := by
  induction x with
  | bot => exact le_refl _
  | top => exact le_top
  | coe r => exact EReal.coe_nonneg.mpr (Real.exp_pos r).le

/-- Dividing by one plus the exponential of the negation is multiplying by the logistic function. -/
theorem div_eq_silu (y : EReal) : Ideal.div y (1 + Ideal.exp (-y)) = silu y := by
  have h : (1 + Ideal.exp (-y) : EReal) ≠ 0 := (lt_of_lt_of_le zero_lt_one (le_add_of_nonneg_right (exp_nonneg _))).ne'
  unfold silu Ideal.logistic Ideal.div
  rw [if_neg h, if_neg h, one_mul]

/-- Clipping leaves a value that the two comparisons place between the bounds. -/
theorem clip_eq (lo hi y : EReal) (h : Ideal.cmp .oge y lo &&& Ideal.cmp .ole y hi = 1#1) : min hi (max lo y) = y := by
  unfold Ideal.cmp at h
  by_cases h1 : lo ≤ y <;> by_cases h2 : y ≤ hi
  · rw [max_eq_right h1, min_eq_right h2]
  all_goals simp [h1, h2] at h

/-! ## Whole arrays -/

/-- The mask's side conditions hold. -/
theorem on_facts : Cert.On_unclipped.Facts where
  bcast_S_S2048x2048 := by decide
  dot_S2048x2048_S2048x2048_S2048x2048_1_0_0_1_n_n_wf := by decide

variable (A B : FVec Ideal ⟨2, ![2048, 2048]⟩ .f32)

/-- The product in the plain operation, entry by entry. -/
theorem dot_apply (i j : Fin 2048) : Host.dotGeneral (DotDims.plain 2048 2048 2048) none A B (ix2 i j) = whole A B i j :=
  StackMember.dotGeneral_plain_apply none A B i j

/-- The result of the clipping reference, from its arguments. -/
def refV : FVec Ideal ⟨2, ![2048, 2048]⟩ .f32 :=
  let y := Host.dotGeneral Cert.ReferenceIdeal.dot_S2048x2048_S2048x2048_S2048x2048_1_0_0_1_n_n none A B
  let b := fun v => broadcastInDim Cert.ReferenceIdeal.S2048x2048 ![] Cert.ReferenceIdeal.Gen.bcast_S_S2048x2048 (constant (F := Ideal) Cert.ReferenceIdeal.S_ .f32 v)
  Host.divf y (addf (b 0x3F800000#32) (Host.exp (Host.negf (minimumf (b 0x42700000#32) (maximumf (b 0xC2700000#32) y)))))
/-- The result of the reference that does not clip, from its arguments. -/
def siluV : FVec Ideal ⟨2, ![2048, 2048]⟩ .f32 :=
  let y := Host.dotGeneral Cert.SiluIdeal.dot_S2048x2048_S2048x2048_S2048x2048_1_0_0_1_n_n none A B
  Host.divf y (addf (broadcastInDim Cert.SiluIdeal.S2048x2048 ![] Cert.SiluIdeal.Gen.bcast_S_S2048x2048 (constant (F := Ideal) Cert.SiluIdeal.S_ .f32 0x3F800000#32))
    (Host.exp (Host.negf y)))

theorem siluV_apply (i j : Fin 2048) : siluV A B (ix2 i j) = silu (whole A B i j) := by
  rw [← dot_apply A B i j, ← div_eq_silu, ← one_bits]
  rfl

theorem refV_apply (i j : Fin 2048) (h : @Cert.On_unclipped.fn on_facts Ideal _ A B (ix2 i j) = 1#1) :
    refV A B (ix2 i j) = silu (whole A B i j) := by
  have hc := clip_eq (Ideal.ofBits .f32 0xC2700000#32) (Ideal.ofBits .f32 0x42700000#32) (Host.dotGeneral (DotDims.plain 2048 2048 2048) none A B (ix2 i j)) h
  rw [← dot_apply A B i j, ← div_eq_silu, ← one_bits]
  refine Eq.trans ?_ (congrArg (fun z => Ideal.div (Host.dotGeneral (DotDims.plain 2048 2048 2048) none A B (ix2 i j))
    (Ideal.ofBits .f32 0x3F800000#32 + Ideal.exp (-z))) hc)
  rfl

/-- Entry `i` of device `c`'s block of rows, in the whole array. -/
theorem block_idx (c : Fin 16) (i : (⟨2, ![128, 2048]⟩ : Shape).Idx) {V : Type} (v : (⟨2, ![2048, 2048]⟩ : Shape).Idx → V) :
    (Layout.block ⟨2, ![128, 2048]⟩ ⟨2, ![2048, 2048]⟩ 0 16 c v : (⟨2, ![128, 2048]⟩ : Shape).Idx → V) i = v (ix2 (at16 c (i 0)) (i 1)) := by
  show v _ = v _
  congr 1
  exact Shape.idx_ext₂ rfl rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SiluIdeal.Run
public import proofs.«01_k».proof.Proof.Kernel.Launch
public import proofs.«01_k».proof.Proof.KernelIdeal.Launch
public import proofs.«01_k».proof.Proof.Values
public import Idealize.ShloMosaic.Adequacy
public import Idealize.ShloMosaic.Init
public import Idealize.ShloMosaic.Lib.Quiescent

/-! The claims, from the runs of the programs. -/

@[expose] public section

noncomputable section

namespace Cert.Proof

open Idealize.ShloMosaic Idealize.SL.Sem

/-- The kernel runs, keeps its arguments and leaves every counter at zero. -/
theorem frame_kernel : Cert.quiescent_Kernel := fun m ρ _ =>
  (θ_run Cert.Kernel.defs _ _).mono (fun _ h => ⟨fun c => ⟨(h.1 c (0 : Fin 3)).trans (Cert.Kernel.Ring.finalA_x m ρ c),
      (h.1 c (1 : Fin 3)).trans (Cert.Kernel.Ring.finalA_w m ρ c)⟩, h.2⟩)
    (Cert.Kernel.Ring.run_main (F := Bits) m ρ)

/-- The idealized kernel runs, keeps its arguments and leaves every counter at zero. -/
theorem frame_kernelIdeal : Cert.quiescent_KernelIdeal := fun m ρ _ =>
  (θ_run Cert.KernelIdeal.defs _ _).mono (fun _ h => ⟨fun c => ⟨(h.1 c (0 : Fin 3)).trans (Cert.KernelIdeal.Ring.finalA_x m ρ c),
      (h.1 c (1 : Fin 3)).trans (Cert.KernelIdeal.Ring.finalA_w m ρ c)⟩, h.2⟩)
    (Cert.KernelIdeal.Ring.run_main (F := Ideal) m ρ)

/-- The reference runs and keeps its arguments; it has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference that does not clip. -/
theorem frame_siluIdeal : Cert.quiescent_SiluIdeal := fun m ρ _ =>
  (θ_run Cert.SiluIdeal.defs _ _).mono (fun r h => ⟨fun c => (h c).2, sem_eq_zero_of_no_sems (by decide) r.2⟩)
    (Cert.SiluIdeal.Value.run (F := Ideal) m ρ)

/-- Without a mask, the kernel ends with the blocks of rows of the result of the reference that does not clip. -/
theorem algebraic_silu : Cert.algebraic_KernelIdeal_SiluIdeal := by
  intro m g m' g' _ hm
  refine ⟨siluV (m' (((0 : Dev Cert.SiluIdeal.nD).tc : Thread Cert.SiluIdeal.nD Cert.SiluIdeal.τ).loc Cert.SiluIdeal.main_arg0))
      (m' (((0 : Dev Cert.SiluIdeal.nD).tc : Thread Cert.SiluIdeal.nD Cert.SiluIdeal.τ).loc Cert.SiluIdeal.main_arg1)),
    (θ_run Cert.KernelIdeal.defs _ _).mono (fun _ h c => ⟨(h.1 c (2 : Fin 3)).trans (funext fun i => ?_),
      (h.1 c (0 : Fin 3)).trans (Cert.KernelIdeal.Ring.finalA_x m g c), (h.1 c (1 : Fin 3)).trans (Cert.KernelIdeal.Ring.finalA_w m g c)⟩)
      (Cert.KernelIdeal.Ring.run_main (F := Ideal) m g),
    (θ_run Cert.SiluIdeal.defs _ _).mono (fun _ h => h 0) (Cert.SiluIdeal.Value.run (F := Ideal) m' g')⟩
  exact (Cert.KernelIdeal.Ring.result_apply m g _ _ (fun d => (hm d).1) (fun d => (hm d).2) c i).trans
    ((siluV_apply _ _ _ _).symm.trans (block_idx c i _).symm)

/-- Where the product lies between the bounds, the kernel ends with the blocks of rows of the reference's result. -/
theorem algebraic_reference : Cert.algebraic_KernelIdeal_ReferenceIdeal_on_unclipped (hOn_unclipped := on_facts) := by
  intro m g m' g' _ hm
  refine ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨fun i hi => (congrFun (h.1 c (2 : Fin 3)) i).trans ?_,
      (h.1 c (0 : Fin 3)).trans (Cert.KernelIdeal.Ring.finalA_x m g c), (h.1 c (1 : Fin 3)).trans (Cert.KernelIdeal.Ring.finalA_w m g c)⟩)
      (Cert.KernelIdeal.Ring.run_main (F := Ideal) m g),
    (θ_run Cert.ReferenceIdeal.defs _ _).mono (fun _ h => ⟨fun i _ => congrFun (h 0).1 i, (h 0).2⟩) (Cert.ReferenceIdeal.Value.run (F := Ideal) m' g')⟩
  exact (Cert.KernelIdeal.Ring.result_apply m g _ _ (fun d => (hm d).1) (fun d => (hm d).2) c i).trans
    ((refV_apply _ _ _ _ ((block_idx c i _).symm.trans hi)).symm.trans (block_idx c i _).symm)

/-- Everything the certificate claims. -/
theorem claim : Cert.Claim := ⟨Cert.Kernel.Gen.facts, Cert.KernelIdeal.Gen.facts, Cert.ReferenceIdeal.Gen.facts,
  Cert.SiluIdeal.Gen.facts, on_facts, frame_kernel, frame_kernelIdeal, frame_referenceIdeal, frame_siluIdeal, trivial,
  algebraic_reference, algebraic_silu⟩

end Cert.Proof

end
